-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_above_padding [hPre_scores_above_padding : Cert.Pre_scores_above_padding.Facts] (m : (ℓ : Loc Cert.KernelIdeal.nD Cert.KernelIdeal.τ Cert.KernelIdeal.sig) → Buf (Elt Ideal) ℓ) : Prop :=
  ∀ c : Dev Cert.KernelIdeal.nD,
    (Cert.Pre_scores_above_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_above_padding [hPre_scores_above_padding : Cert.Pre_scores_above_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_above_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_above_padding [hKernelIdeal : Cert.KernelIdeal.Facts] [hPre_scores_above_padding : Cert.Pre_scores_above_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_above_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_above_padding [hReferenceIdeal : Cert.ReferenceIdeal.Facts] [hPre_scores_above_padding : Cert.Pre_scores_above_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_above_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_above_padding [hKernelIdeal : Cert.KernelIdeal.Facts] [hReferenceIdeal : Cert.ReferenceIdeal.Facts] [hPre_scores_above_padding : Cert.Pre_scores_above_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_above_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_above_padding : Cert.Pre_scores_above_padding.Facts),
    quiescent_Kernel (hKernel := hKernel)
    ∧ quiescent_KernelIdeal (hKernelIdeal := hKernelIdeal)
    ∧ quiescent_KernelIdeal_pre_scores_above_padding (hKernelIdeal := hKernelIdeal) (hPre_scores_above_padding := hPre_scores_above_padding)
    ∧ quiescent_ReferenceIdeal (hReferenceIdeal := hReferenceIdeal)
    ∧ quiescent_ReferenceIdeal_pre_scores_above_padding (hReferenceIdeal := hReferenceIdeal) (hPre_scores_above_padding := hPre_scores_above_padding)
    ∧ preserves_Kernel_KernelIdeal
    ∧ algebraic_KernelIdeal_ReferenceIdeal_pre_scores_above_padding (hKernelIdeal := hKernelIdeal) (hReferenceIdeal := hReferenceIdeal) (hPre_scores_above_padding := hPre_scores_above_padding)
-- ==== Pre_scores_above_padding.lean ====
abbrev S6x8x900x1100 : Shape := ⟨4, ![6, 8, 900, 1100]⟩
abbrev S8x900x4 : Shape := ⟨3, ![8, 900, 4]⟩
abbrev S8x2 : Shape := ⟨2, ![8, 2]⟩
abbrev S1x8x900x91 : Shape := ⟨4, ![1, 8, 900, 91]⟩
abbrev S8x900x91 : Shape := ⟨3, ![8, 900, 91]⟩
abbrev S_ : Shape := ⟨0, ![]⟩

class Facts : Prop where
  slices_S6x8x900x1100_S1x8x900x91_4_0_0_1000 : S6x8x900x1100.Slices ![4, 0, 0, 1000] S1x8x900x91
  shapeCasts_S1x8x900x91_S8x900x91 : S1x8x900x91.ShapeCasts S8x900x91
  bcast_S_S8x900x91 : S_.BroadcastsInDim S8x900x91 (![] : Fin 0 → Fin S8x900x91.rank)
  reducesTo_S8x900x91_S_d0_1_2 : S8x900x91.ReducesTo [0, 1, 2] S_
  h_S_ : 0 < S_.numel

variable [Facts]

def fn {F : FTy → Type} [FloatOps F] (main_arg0 : FVec F S6x8x900x1100 .f32) (main_arg1 : FVec F S8x900x4 .f32) (main_arg2 : FVec F S8x2 .f32) : IVec S_ 1 :=
  let main_v0 : FVec F S1x8x900x91 .f32 := (extractStridedSlice S1x8x900x91 ![4, 0, 0, 1000] · slices_S6x8x900x1100_S1x8x900x91_4_0_0_1000) main_arg0
  let main_v1 : FVec F S8x900x91 .f32 := shapeCast S8x900x91 main_v0 shapeCasts_S1x8x900x91_S8x900x91
  let main_cst : FVec F S_ .f32 := constant S_ .f32 0xF149F2CA#32
  let main_v2 : FVec F S8x900x91 .f32 := broadcastInDim S8x900x91 ![] bcast_S_S8x900x91 main_cst
  let main_v3 : IVec S8x900x91 1 := cmpf .ogt main_v1 main_v2
  let main_c : IVec S_ 1 := constantI S_ 1 1#1
  let main_v4 : IVec S_ 1 := (fun x v => Host.reduce IntOp.andi x v reducesTo_S8x900x91_S_d0_1_2 h_S_) main_v3 main_c
  main_v4
-- ==== Kernel.lean ====
abbrev S6x8x900x1100 : Shape := ⟨4, ![6, 8, 900, 1100]⟩
abbrev S8x900x4 : Shape := ⟨3, ![8, 900, 4]⟩
abbrev S8x2 : Shape := ⟨2, ![8, 2]⟩
abbrev S1x8x900x91 : Shape := ⟨4, ![1, 8, 900, 91]⟩
abbrev S8x900x91 : Shape := ⟨3, ![8, 900, 91]⟩
abbrev S8x81900 : Shape := ⟨2, ![8, 81900]⟩
abbrev S_ : Shape := ⟨0, ![]⟩
abbrev S8x81920 : Shape := ⟨2, ![8, 81920]⟩
abbrev S8x640x128 : Shape := ⟨3, ![8, 640, 128]⟩
abbrev S8x1024x4 : Shape := ⟨3, ![8, 1024, 4]⟩
abbrev S8x1 : Shape := ⟨2, ![8, 1]⟩
abbrev S8 : Shape := ⟨1, ![8]⟩
abbrev S8x4 : Shape := ⟨2, ![8, 4]⟩
abbrev S1x640x128 : Shape := ⟨3, ![1, 640, 128]⟩
abbrev S640x128 : Shape := ⟨2, ![640, 128]⟩
abbrev S8x128 : Shape := ⟨2, ![8, 128]⟩
abbrev S8x128x4 : Shape := ⟨3, ![8, 128, 4]⟩
abbrev S104x128 : Shape := ⟨2, ![104, 128]⟩
abbrev S2 : Shape := ⟨1, ![2]⟩
abbrev S1x128 : Shape := ⟨2, ![1, 128]⟩
abbrev S1 : Shape := ⟨1, ![1]⟩
abbrev S128 : Shape := ⟨1, ![128]⟩
abbrev S1x1 : Shape := ⟨2, ![1, 1]⟩
abbrev S1024x1 : Shape := ⟨2, ![1024, 1]⟩
abbrev S1x1024x4 : Shape := ⟨3, ![1, 1024, 4]⟩
abbrev S1024x4 : Shape := ⟨2, ![1024, 4]⟩
abbrev S1x4 : Shape := ⟨2, ![1, 4]⟩
abbrev S1024x128 : Shape := ⟨2, ![1024, 128]⟩
abbrev S128x4 : Shape := ⟨2, ![128, 4]⟩
abbrev S1x128x4 : Shape := ⟨3, ![1, 128, 4]⟩
abbrev S8x100 : Shape := ⟨2, ![8, 100]⟩
abbrev S8x100x4 : Shape := ⟨3, ![8, 100, 4]⟩

abbrev nBuf : Space → Nat
  | .hbm => 44
  | .vmem => 37
  | .smem => 1
  | _ => 0

abbrev bufTy : (tb : Table) → Fin (tcTables nBuf tb) → BufTy
  | .hbm, ⟨0, _⟩ => ⟨S6x8x900x1100, .f32⟩
  | .hbm, ⟨1, _⟩ => ⟨S8x900x4, .f32⟩
  | .hbm, ⟨2, _⟩ => ⟨S8x2, .f32⟩
  | .hbm, ⟨3, _⟩ => ⟨S1x8x900x91, .f32⟩
  | .hbm, ⟨4, _⟩ => ⟨S8x900x91, .f32⟩
  | .hbm, ⟨5, _⟩ => ⟨S8x81900, .f32⟩
  | .hbm, ⟨6, _⟩ => ⟨S_, .f32⟩
  | .hbm, ⟨7, _⟩ => ⟨S_, .f32⟩
  | .hbm, ⟨8, _⟩ => ⟨S8x81920, .f32⟩
  | .hbm, ⟨9, _⟩ => ⟨S8x640x128, .f32⟩
  | .hbm, ⟨10, _⟩ => ⟨S_, .i32⟩
  | .hbm, ⟨11, _⟩ => ⟨S_, .f32⟩
  | .hbm, ⟨12, _⟩ => ⟨S8x1024x4, .f32⟩
  | .hbm, ⟨13, _⟩ => ⟨S8x1, .f32⟩
  | .hbm, ⟨14, _⟩ => ⟨S8, .f32⟩
  | .hbm, ⟨15, _⟩ => ⟨S8x1, .f32⟩
  | .hbm, ⟨16, _⟩ => ⟨S8, .f32⟩
  | .hbm, ⟨17, _⟩ => ⟨S8x1, .f32⟩
  | .hbm, ⟨18, _⟩ => ⟨S8x1, .f32⟩
  | .hbm, ⟨19, _⟩ => ⟨S8x1, .f32⟩
  | .hbm, ⟨20, _⟩ => ⟨S8x1, .f32⟩
  | .hbm, ⟨21, _⟩ => ⟨S8x4, .f32⟩
  | .hbm, ⟨22, _⟩ => ⟨S1x640x128, .f32⟩
  | .hbm, ⟨23, _⟩ => ⟨S640x128, .f32⟩
  | .hbm, ⟨24, _⟩ => ⟨S1x640x128, .f32⟩
  | .hbm, ⟨25, _⟩ => ⟨S640x128, .f32⟩
  | .hbm, ⟨26, _⟩ => ⟨S1x640x128, .f32⟩
  | .hbm, ⟨27, _⟩ => ⟨S640x128, .f32⟩
  | .hbm, ⟨28, _⟩ => ⟨S1x640x128, .f32⟩
  | .hbm, ⟨29, _⟩ => ⟨S640x128, .f32⟩
  | .hbm, ⟨30, _⟩ => ⟨S1x640x128, .f32⟩
  | .hbm, ⟨31, _⟩ => ⟨S640x128, .f32⟩
  | .hbm, ⟨32, _⟩ => ⟨S1x640x128, .f32⟩
  | .hbm, ⟨33, _⟩ => ⟨S640x128, .f32⟩
  | .hbm, ⟨34, _⟩ => ⟨S1x640x128, .f32⟩
  | .hbm, ⟨35, _⟩ => ⟨S640x128, .f32⟩
  | .hbm, ⟨36, _⟩ => ⟨S1x640x128, .f32⟩
  | .hbm, ⟨37, _⟩ => ⟨S640x128, .f32⟩
  | .hbm, ⟨38, _⟩ => ⟨S8x128, .f32⟩
  | .hbm, ⟨39, _⟩ => ⟨S8x128, .i32⟩
  | .hbm, ⟨40, _⟩ => ⟨S8x128x4, .f32⟩
  | .hbm, ⟨41, _⟩ => ⟨S8x100, .f32⟩
  | .hbm, ⟨42, _⟩ => ⟨S8x100, .i32⟩
  | .hbm, ⟨43, _⟩ => ⟨S8x100x4, .f32⟩
  | .local _ .vmem, ⟨0, _⟩ => ⟨S640x128, .f32⟩
  | .local _ .vmem, ⟨1, _⟩ => ⟨S640x128, .f32⟩
  | .local _ .vmem, ⟨2, _⟩ => ⟨S640x128, .f32⟩
  | .local _ .vmem, ⟨3, _⟩ => ⟨S640x128, .f32⟩
  | .local _ .vmem, ⟨4, _⟩ => ⟨S640x128, .f32⟩
  | .local _ .vmem, ⟨5, _⟩ => ⟨S640x128, .f32⟩
  | .local _ .vmem, ⟨6, _⟩ => ⟨S640x128, .f32⟩
  | .local _ .vmem, ⟨7, _⟩ => ⟨S640x128, .f32⟩
  | .local _ .vmem, ⟨8, _⟩ => ⟨S8x1024x4, .f32⟩
  | .local _ .vmem, ⟨9, _⟩ => ⟨S8x4, .f32⟩
  | .local _ .vmem, ⟨10, _⟩ => ⟨S8x128, .f32⟩
  | .local _ .vmem, ⟨11, _⟩ => ⟨S8x128, .i32⟩
  | .local _ .vmem, ⟨12, _⟩ => ⟨S8x128x4, .f32⟩
  | .local _ .vmem, ⟨13, _⟩ => ⟨S640x128, .f32⟩
  | .local _ .vmem, ⟨14, _⟩ => ⟨S640x128, .f32⟩
  | .local _ .vmem, ⟨15, _⟩ => ⟨S640x128, .f32⟩
  | .local _ .vmem, ⟨16, _⟩ => ⟨S640x128, .f32⟩
  | .local _ .vmem, ⟨17, _⟩ => ⟨S640x128, .f32⟩
  | .local _ .vmem, ⟨18, _⟩ => ⟨S640x128, .f32⟩
  | .local _ .vmem, ⟨19, _⟩ => ⟨S640x128, .f32⟩
  | .local _ .vmem, ⟨20, _⟩ => ⟨S640x128, .f32⟩
  | .local _ .vmem, ⟨21, _⟩ => ⟨S104x128, .f32⟩
  | .local _ .vmem, ⟨22, _⟩ => ⟨S104x128, .f32⟩
  | .local _ .vmem, ⟨23, _⟩ => ⟨S104x128, .f32⟩
  | .local _ .vmem, ⟨24, _⟩ => ⟨S104x128, .f32⟩
  | .local _ .vmem, ⟨25, _⟩ => ⟨S104x128, .f32⟩
  | .local _ .vmem, ⟨26, _⟩ => ⟨S104x128, .f32⟩
  | .local _ .vmem, ⟨27, _⟩ => ⟨S104x128, .f32⟩
  | .local _ .vmem, ⟨28, _⟩ => ⟨S104x128, .f32⟩
  | .local _ .vmem, ⟨29, _⟩ => ⟨S104x128, .i32⟩
  | .local _ .vmem, ⟨30, _⟩ => ⟨S104x128, .i32⟩
  | .local _ .vmem, ⟨31, _⟩ => ⟨S104x128, .i32⟩
  | .local _ .vmem, ⟨32, _⟩ => ⟨S104x128, .i32⟩
  | .local _ .vmem, ⟨33, _⟩ => ⟨S104x128, .i32⟩
  | .local _ .vmem, ⟨34, _⟩ => ⟨S104x128, .i32⟩
  | .local _ .vmem, ⟨35, _⟩ => ⟨S104x128, .i32⟩
  | .local _ .vmem, ⟨36, _⟩ => ⟨S104x128, .i32⟩
  | .local _ .smem, ⟨0, _⟩ => ⟨S2, .i32⟩
  | _, _ => ⟨S6x8x900x1100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev main_v31_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_scratch10 : Ref sig .tc := ⟨.vmem, 23, rfl⟩
abbrev cc0_scratch11 : Ref sig .tc := ⟨.vmem, 24, rfl⟩
abbrev cc0_scratch12 : Ref sig .tc := ⟨.vmem, 25, rfl⟩
abbrev cc0_scratch13 : Ref sig .tc := ⟨.vmem, 26, rfl⟩
abbrev cc0_scratch14 : Ref sig .tc := ⟨.vmem, 27, rfl⟩
abbrev cc0_scratch15 : Ref sig .tc := ⟨.vmem, 28, rfl⟩
abbrev cc0_scratch16 : Ref sig .tc := ⟨.vmem, 29, rfl⟩
abbrev cc0_scratch17 : Ref sig .tc := ⟨.vmem, 30, rfl⟩
abbrev cc0_scratch18 : Ref sig .tc := ⟨.vmem, 31, rfl⟩
abbrev cc0_scratch19 : Ref sig .tc := ⟨.vmem, 32, rfl⟩
abbrev cc0_scratch20 : Ref sig .tc := ⟨.vmem, 33, rfl⟩
abbrev cc0_scratch21 : Ref sig .tc := ⟨.vmem, 34, rfl⟩
abbrev cc0_scratch22 : Ref sig .tc := ⟨.vmem, 35, rfl⟩
abbrev cc0_scratch23 : Ref sig .tc := ⟨.vmem, 36, rfl⟩
abbrev cc0_scratch24 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32_79 : BitVec 32 := 0#32
  let c100_i32 : BitVec 32 := 100#32
  let v107 : BitVec 32 := Scalar.addi c0_i32_79 c100_i32
  let c1_i32 : BitVec 32 := 1#32
  ⟨c0_i32_79, v107, c1_i32⟩
def k0_off1 (k0_t1 : Fin k0_t1_loop.trips) : Fin 2 → Nat :=
  let c0_i32_79 : BitVec 32 := 0#32
  let c1_i32 : BitVec 32 := 1#32
  let arg38 : BitVec 32 := Scf.iv c0_i32_79 c1_i32 k0_t1
  let v674 : Index := Scalar.indexCast arg38
  let c0_333 : Index := 0#32
  ![v674.toNat, 0]
@[reducible] def k0_t2_loop : Scf.Loop 32 :=
  let c0_i32_358 : BitVec 32 := 0#32
  let c100_i32_359 : BitVec 32 := 100#32
  let v677 : BitVec 32 := Scalar.addi c0_i32_358 c100_i32_359
  let c1_i32_360 : BitVec 32 := 1#32
  ⟨c0_i32_358, v677, c1_i32_360⟩
@[reducible] def k0_t3_loop : Scf.Loop 32 :=
  let c0_i32_326 : BitVec 32 := 0#32
  let c100_i32_327 : BitVec 32 := 100#32
  let v661 : BitVec 32 := Scalar.addi c0_i32_326 c100_i32_327
  let c1_i32_328 : BitVec 32 := 1#32
  ⟨c0_i32_326, v661, c1_i32_328⟩
abbrev stage0_0 : Fin 1 → Memref sig .tc .vmem S640x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S640x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S640x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S640x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S640x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1024x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S6x8x900x1100 : Shape := ⟨4, ![6, 8, 900, 1100]⟩
abbrev S8x900x4 : Shape := ⟨3, ![8, 900, 4]⟩
abbrev S8x2 : Shape := ⟨2, ![8, 2]⟩
abbrev S1x8x900x1100 : Shape := ⟨4, ![1, 8, 900, 1100]⟩
abbrev S8x900x1100 : Shape := ⟨3, ![8, 900, 1100]⟩
abbrev S_ : Shape := ⟨0, ![]⟩
abbrev S8x900x91 : Shape := ⟨3, ![8, 900, 91]⟩
abbrev S8x81900 : Shape := ⟨2, ![8, 81900]⟩
abbrev S8x100 : Shape := ⟨2, ![8, 100]⟩
abbrev S8x900x1 : Shape := ⟨3, ![8, 900, 1]⟩
abbrev S8x900 : Shape := ⟨2, ![8, 900]⟩
abbrev S8x100x1 : Shape := ⟨3, ![8, 100, 1]⟩
abbrev S1 : Shape := ⟨1, ![1]⟩
abbrev S1x1x1 : Shape := ⟨3, ![1, 1, 1]⟩
abbrev S8x100x4 : Shape := ⟨3, ![8, 100, 4]⟩
abbrev S8x1 : Shape := ⟨2, ![8, 1]⟩
abbrev S8 : Shape := ⟨1, ![8]⟩
abbrev S8x4 : Shape := ⟨2, ![8, 4]⟩
abbrev S8x1x4 : Shape := ⟨3, ![8, 1, 4]⟩

abbrev nBuf : Space → Nat
  | .hbm => 121
  | .vmem => 0
  | .smem => 0
  | _ => 0

abbrev bufTy : (tb : Table) → Fin (tcTables nBuf tb) → BufTy
  | .hbm, ⟨0, _⟩ => ⟨S6x8x900x1100, .f32⟩
  | .hbm, ⟨1, _⟩ => ⟨S8x900x4, .f32⟩
  | .hbm, ⟨2, _⟩ => ⟨S8x2, .f32⟩
  | .hbm, ⟨3, _⟩ => ⟨S1x8x900x1100, .f32⟩
  | .hbm, ⟨4, _⟩ => ⟨S8x900x1100, .f32⟩
  | .hbm, ⟨5, _⟩ => ⟨S8x900x1100, .f32⟩
  | .hbm, ⟨6, _⟩ => ⟨S8x900x1100, .f32⟩
  | .hbm, ⟨7, _⟩ => ⟨S_, .f32⟩
  | .hbm, ⟨8, _⟩ => ⟨S8x900x1100, .f32⟩
  | .hbm, ⟨9, _⟩ => ⟨S8x900x1100, .f32⟩
  | .hbm, ⟨10, _⟩ => ⟨S_, .f32⟩
  | .hbm, ⟨11, _⟩ => ⟨S8x900x1100, .f32⟩
  | .hbm, ⟨12, _⟩ => ⟨S8x900x1100, .f32⟩
  | .hbm, ⟨13, _⟩ => ⟨S8x900x91, .f32⟩
  | .hbm, ⟨14, _⟩ => ⟨S8x81900, .f32⟩
  | .hbm, ⟨15, _⟩ => ⟨S8x100, .f32⟩
  | .hbm, ⟨16, _⟩ => ⟨S8x100, .i32⟩
  | .hbm, ⟨17, _⟩ => ⟨S_, .i32⟩
  | .hbm, ⟨18, _⟩ => ⟨S_, .i32⟩
  | .hbm, ⟨19, _⟩ => ⟨S8x100, .i32⟩
  | .hbm, ⟨20, _⟩ => ⟨S8x100, .i32⟩
  | .hbm, ⟨21, _⟩ => ⟨S8x100, .i32⟩
  | .hbm, ⟨22, _⟩ => ⟨S_, .i32⟩
  | .hbm, ⟨23, _⟩ => ⟨S8x100, .i32⟩
  | .hbm, ⟨24, _⟩ => ⟨S8x100, .i1⟩
  | .hbm, ⟨25, _⟩ => ⟨S8x100, .i32⟩
  | .hbm, ⟨26, _⟩ => ⟨S8x100, .i32⟩
  | .hbm, ⟨27, _⟩ => ⟨S_, .i32⟩
  | .hbm, ⟨28, _⟩ => ⟨S8x100, .i32⟩
  | .hbm, ⟨29, _⟩ => ⟨S8x100, .i1⟩
  | .hbm, ⟨30, _⟩ => ⟨S8x100, .i1⟩
  | .hbm, ⟨31, _⟩ => ⟨S_, .i32⟩
  | .hbm, ⟨32, _⟩ => ⟨S8x100, .i32⟩
  | .hbm, ⟨33, _⟩ => ⟨S8x100, .i32⟩
  | .hbm, ⟨34, _⟩ => ⟨S8x100, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S8x100, .i32⟩
  | .hbm, ⟨42, _⟩ => ⟨S8x100, .i32⟩
  | .hbm, ⟨43, _⟩ => ⟨S_, .i32⟩
  | .hbm, ⟨44, _⟩ => ⟨S8x100, .i32⟩
  | .hbm, ⟨45, _⟩ => ⟨S8x100, .i1⟩
  | .hbm, ⟨46, _⟩ => ⟨S_, .i32⟩
  | .hbm, ⟨47, _⟩ => ⟨S8x100, .i32⟩
  | .hbm, ⟨48, _⟩ => ⟨S8x100, .i1⟩
  | .hbm, ⟨49, _⟩ => ⟨S_, .i32⟩
  | .hbm, ⟨50, _⟩ => ⟨S_, .i1⟩
  | .hbm, ⟨51, _⟩ => ⟨S8x100, .i1⟩
  | .hbm, ⟨52, _⟩ => ⟨S8x100, .i1⟩
  | .hbm, ⟨53, _⟩ => ⟨S8x100, .i1⟩
  | .hbm, ⟨54, _⟩ => ⟨S8x100, .i32⟩
  | .hbm, ⟨55, _⟩ => ⟨S8x100, .i32⟩
  | .hbm, ⟨56, _⟩ => ⟨S8x100, .i32⟩
  | .hbm, ⟨57, _⟩ => ⟨S8x900x1, .f32⟩
  | .hbm, ⟨58, _⟩ => ⟨S8x900, .f32⟩
  | .hbm, ⟨59, _⟩ => ⟨S8x900x1, .f32⟩
  | .hbm, ⟨60, _⟩ => ⟨S8x900, .f32⟩
  | .hbm, ⟨61, _⟩ => ⟨S8x900x1, .f32⟩
  | .hbm, ⟨62, _⟩ => ⟨S8x900, .f32⟩
  | .hbm, ⟨63, _⟩ => ⟨S8x900x1, .f32⟩
  | .hbm, ⟨64, _⟩ => ⟨S8x900, .f32⟩
  | .hbm, ⟨65, _⟩ => ⟨S_, .f32⟩
  | .hbm, ⟨66, _⟩ => ⟨S8x900, .f32⟩
  | .hbm, ⟨67, _⟩ => ⟨S8x900, .f32⟩
  | .hbm, ⟨68, _⟩ => ⟨S8x900, .f32⟩
  | .hbm, ⟨69, _⟩ => ⟨S_, .f32⟩
  | .hbm, ⟨70, _⟩ => ⟨S8x900, .f32⟩
  | .hbm, ⟨71, _⟩ => ⟨S8x900, .f32⟩
  | .hbm, ⟨72, _⟩ => ⟨S8x900, .f32⟩
  | .hbm, ⟨73, _⟩ => ⟨S_, .f32⟩
  | .hbm, ⟨74, _⟩ => ⟨S8x900, .f32⟩
  | .hbm, ⟨75, _⟩ => ⟨S8x900, .f32⟩
  | .hbm, ⟨76, _⟩ => ⟨S8x900, .f32⟩
  | .hbm, ⟨77, _⟩ => ⟨S_, .f32⟩
  | .hbm, ⟨78, _⟩ => ⟨S8x900, .f32⟩
  | .hbm, ⟨79, _⟩ => ⟨S8x900, .f32⟩
  | .hbm, ⟨80, _⟩ => ⟨S8x900, .f32⟩
  | .hbm, ⟨81, _⟩ => ⟨S8x900x1, .f32⟩
  | .hbm, ⟨82, _⟩ => ⟨S8x900x1, .f32⟩
  | .hbm, ⟨83, _⟩ => ⟨S8x900x1, .f32⟩
  | .hbm, ⟨84, _⟩ => ⟨S8x900x1, .f32⟩
  | .hbm, ⟨85, _⟩ => ⟨S8x900x4, .f32⟩
  | .hbm, ⟨86, _⟩ => ⟨S8x100x1, .i32⟩
  | .hbm, ⟨87, _⟩ => ⟨S_, .i32⟩
  | .hbm, ⟨88, _⟩ => ⟨S8x100x1, .i32⟩
  | .hbm, ⟨89, _⟩ => ⟨S8x100x1, .i1⟩
  | .hbm, ⟨90, _⟩ => ⟨S_, .i32⟩
  | .hbm, ⟨91, _⟩ => ⟨S8x100x1, .i32⟩
  | .hbm, ⟨92, _⟩ => ⟨S8x100x1, .i32⟩
  | .hbm, ⟨93, _⟩ => ⟨S8x100x1, .i32⟩
  | .hbm, ⟨94, _⟩ => ⟨S1, .i32⟩
  | .hbm, ⟨95, _⟩ => ⟨S_, .i32⟩
  | .hbm, ⟨96, _⟩ => ⟨S8x100x1, .i32⟩
  | .hbm, ⟨97, _⟩ => ⟨S8x100x1, .i1⟩
  | .hbm, ⟨98, _⟩ => ⟨S1x1x1, .i32⟩
  | .hbm, ⟨99, _⟩ => ⟨S8x100x1, .i32⟩
  | .hbm, ⟨100, _⟩ => ⟨S8x100x1, .i1⟩
  | .hbm, ⟨101, _⟩ => ⟨S8x100x1, .i1⟩
  | .hbm, ⟨102, _⟩ => ⟨S_, .i1⟩
  | .hbm, ⟨103, _⟩ => ⟨S8x100, .i1⟩
  | .hbm, ⟨104, _⟩ => ⟨S8x100x4, .f32⟩
  | .hbm, ⟨105, _⟩ => ⟨S8x100x4, .i1⟩
  | .hbm, ⟨106, _⟩ => ⟨S_, .f32⟩
  | .hbm, ⟨107, _⟩ => ⟨S8x100x4, .f32⟩
  | .hbm, ⟨108, _⟩ => ⟨S8x100x4, .f32⟩
  | .hbm, ⟨109, _⟩ => ⟨S8x1, .f32⟩
  | .hbm, ⟨110, _⟩ => ⟨S8, .f32⟩
  | .hbm, ⟨111, _⟩ => ⟨S8x1, .f32⟩
  | .hbm, ⟨112, _⟩ => ⟨S8, .f32⟩
  | .hbm, ⟨113, _⟩ => ⟨S8x1, .f32⟩
  | .hbm, ⟨114, _⟩ => ⟨S8x1, .f32⟩
  | .hbm, ⟨115, _⟩ => ⟨S8x1, .f32⟩
  | .hbm, ⟨116, _⟩ => ⟨S8x1, .f32⟩
  | .hbm, ⟨117, _⟩ => ⟨S8x4, .f32⟩
  | .hbm, ⟨118, _⟩ => ⟨S8x1x4, .f32⟩
  | .hbm, ⟨119, _⟩ => ⟨S8x100x4, .f32⟩
  | .hbm, ⟨120, _⟩ => ⟨S8x100x4, .f32⟩
  | _, _ => ⟨S6x8x900x1100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_values : Ref sig .tc := ⟨.hbm, 15, rfl⟩
abbrev main_indices : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v10 : Ref sig .tc := ⟨.hbm, 34, rfl⟩
abbrev main_c_1 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_2 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_3 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_cst_4 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_5 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_1 : Ref sig .tc := ⟨.hbm, 94, rfl⟩
abbrev main_call2_c_2 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_c_3 : Ref sig .tc := ⟨.hbm, 102, rfl⟩
abbrev main_call2_v11 : Ref sig .tc := ⟨.hbm, 103, rfl⟩
abbrev main_call2_v12 : Ref sig .tc := ⟨.hbm, 104, rfl⟩
abbrev main_call2_v13 : Ref sig .tc := ⟨.hbm, 105, rfl⟩
abbrev main_call2_cst : Ref sig .tc := ⟨.hbm, 106, rfl⟩
abbrev main_call2_v14 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩

abbrev nD : Nat := 1
abbrev τ : Topo := Topo.v7x

variable {F : FTy → Type} [FloatOps F]
-- ==== Proof.KernelIdealBody.lean ====
/-
  What the idealized kernel's body keeps: it runs to its return without a fault, hands its ten inputs back as they
  were, and leaves its three results and the twenty-five scratch buffers at contents nothing names. The scratch is carried
  through both loops the same way.
-/
module

public import proofs.«01_k».proof.Proof.Gen.KernelIdeal.Loops
public import proofs.«01_k».proof.Proof.Gen.KernelIdeal.Frame
public import Idealize.ShloMosaic.Lib.Tactic
public import Idealize.ShloMosaic.Lib.Pipeline.Kit
public import Idealize.ShloMosaic.Lib.Pipeline.FrameBody
public import Idealize.ShloMosaic.Lib.Quiescent

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- No label recurses. -/
abbrev 𝒱₀ : Variants := Variants.none

/-- A memref's buffer on core `c`, held whole at the contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The twenty-five scratch buffers, each held whole at some contents. -/
abbrev scr (c : Dev nD) : sProp 𝕄 :=
  iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ (∃ f, pt c (Memref.whole cc0_scratch16) f) ∗ (∃ f, pt c (Memref.whole cc0_scratch17) f) ∗ (∃ f, pt c (Memref.whole cc0_scratch18) f) ∗ (∃ f, pt c (Memref.whole cc0_scratch19) f) ∗ (∃ f, pt c (Memref.whole cc0_scratch20) f) ∗ (∃ f, pt c (Memref.whole cc0_scratch21) f) ∗ (∃ f, pt c (Memref.whole cc0_scratch22) f) ∗ (∃ f, pt c (Memref.whole cc0_scratch23) f) ∗ (∃ f, pt c (Memref.whole cc0_scratch24) f))

/-- A branch runs if each side runs under its condition. -/
theorem ite_split (c : Dev nD) {C : Prop} [Decidable C] {α : Type} {R : sProp 𝕄} {Q : α → sProp 𝕄}
    {A B : Prog (TpuEff nD τ sig (Elt F) Λ₀ .tc) α}
    (hA : C → Entails' R (wp frame (wpE (defs₀ (F := F)) 𝒱₀ c none) Set.univ A Q))
    (hB : ¬C → Entails' R (wp frame (wpE (defs₀ (F := F)) 𝒱₀ c none) Set.univ B Q)) :
    Entails' R (wp frame (wpE (defs₀ (F := F)) 𝒱₀ c none) Set.univ (if C then A else B) Q) := by
  split
  · exact hA ‹_›
  · exact hB ‹_›

/-- A held buffer that reads as `x` is the window at `x`. -/
theorem owns_of (c : Dev nD) {sp : Space} {S : Shape} {e : EltTy} {M : Memref sig .tc sp S e} {g : Buf (Elt F) (M.view.loc (c : Thread nD τ))} {x : Vec F S e}
    (h : M.view.read (Elt F) g = x) : (M.view.loc (c : Thread nD τ) ↦[M.view.set]{fullShare} g : sProp 𝕄) ⊢ iprop(∃ f, ⌜M.view.read (Elt F) f = x⌝ ∗ (M.view.loc (c : Thread nD τ) ↦[M.view.set]{fullShare} f)) := by
  iintro H
  iexists g
  isplitr
  · ipureintro; exact h
  · iexact H

/-- A held buffer is the window at some contents. -/
theorem ex_owns (c : Dev nD) {sp : Space} {S : Shape} {e : EltTy} {M : Memref sig .tc sp S e} {g : Buf (Elt F) (M.view.loc (c : Thread nD τ))} :
    (M.view.loc (c : Thread nD τ) ↦[M.view.set]{fullShare} g : sProp 𝕄) ⊢ iprop(∃ d, ∃ f, ⌜M.view.read (Elt F) f = d⌝ ∗ (M.view.loc (c : Thread nD τ) ↦[M.view.set]{fullShare} f)) := by
  iintro H
  iexists _
  iapply (owns_of c rfl) $$ H

section Loops

variable (c : Dev nD)
  (arg0 : Memref sig .tc .vmem S640x128 .f32) (harg0 : arg0.IsWhole)
  (arg1 : Memref sig .tc .vmem S640x128 .f32) (harg1 : arg1.IsWhole)
  (arg2 : Memref sig .tc .vmem S640x128 .f32) (harg2 : arg2.IsWhole)
  (arg3 : Memref sig .tc .vmem S640x128 .f32) (harg3 : arg3.IsWhole)
  (arg4 : Memref sig .tc .vmem S640x128 .f32) (harg4 : arg4.IsWhole)
  (arg5 : Memref sig .tc .vmem S640x128 .f32) (harg5 : arg5.IsWhole)
  (arg6 : Memref sig .tc .vmem S640x128 .f32) (harg6 : arg6.IsWhole)
  (arg7 : Memref sig .tc .vmem S640x128 .f32) (harg7 : arg7.IsWhole)
  (arg8 : Memref sig .tc .vmem S8x1024x4 .f32) (harg8 : arg8.IsWhole)
  (arg9 : Memref sig .tc .vmem S8x4 .f32) (harg9 : arg9.IsWhole)
  (arg10 : Memref sig .tc .vmem S8x128 .f32) (harg10 : arg10.IsWhole)
  (arg11 : Memref sig .tc .vmem S8x128 .i32) (harg11 : arg11.IsWhole)
  (arg12 : Memref sig .tc .vmem S8x128x4 .f32) (harg12 : arg12.IsWhole)

set_option warn.classDefReducibility false in
/-- The peeling loop keeps the scratch buffers, at some contents. -/
@[sl_loop] def loopInv_k0_t1 (v0 : IVec S640x128 32) (v1 : IVec S1x128 32) (v89 : IVec S104x128 32) :
    LoopInvTy_k0_t1 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) v0 v1 v89 where
  inv k _ := scr c
  step k _ := by
    iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
    sl_unfold [k0_t1_body]
    sl_exec
    sl_step
    isplitl [H0]; · iexists _; iexact H0

    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

set_option warn.classDefReducibility false in
/-- The selection loop over the scratch rows keeps the scratch buffers, at some contents. -/
@[sl_loop] def loopInv_k0_t3 (v1 : IVec S1x128 32) (v108 : FVec F S1x128 .f32) (v109 : FVec F S1x128 .f32) (v110 : FVec F S1x128 .f32) (v111 : FVec F S1x128 .f32) (v112 : FVec F S1x128 .f32) (v113 : FVec F S1x128 .f32) (v114 : FVec F S1x128 .f32) (v115 : FVec F S1x128 .f32) (v116 : IVec S1x128 32) (v117 : IVec S1x128 32) (v118 : IVec S1x128 32) (v119 : IVec S1x128 32) (v120 : IVec S1x128 32) (v121 : IVec S1x128 32) (v122 : IVec S1x128 32) (v123 : IVec S1x128 32) :
    LoopInvTy_k0_t3 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) v1 v108 v109 v110 v111 v112 v113 v114 v115 v116 v117 v118 v119 v120 v121 v122 v123 (v108, v109, v110, v111, v112, v113, v114, v115, v116, v117, v118, v119, v120, v121, v122, v123) where
  inv k _ := scr c
  step k acc := by
    iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
    sl_unfold [k0_t3_body]
    sl_exec
    sl_step
    isplitl [H0]; · iexists _; iexact H0

    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

set_option warn.classDefReducibility false in
/-- The selection loop that carries its rows touches no memory. -/
@[sl_loop] def loopInv_k0_t2 (v1 : IVec S1x128 32) (v108 : FVec F S1x128 .f32) (v109 : FVec F S1x128 .f32) (v110 : FVec F S1x128 .f32) (v111 : FVec F S1x128 .f32) (v112 : FVec F S1x128 .f32) (v113 : FVec F S1x128 .f32) (v114 : FVec F S1x128 .f32) (v115 : FVec F S1x128 .f32) (v116 : IVec S1x128 32) (v117 : IVec S1x128 32) (v118 : IVec S1x128 32) (v119 : IVec S1x128 32) (v120 : IVec S1x128 32) (v121 : IVec S1x128 32) (v122 : IVec S1x128 32) (v123 : IVec S1x128 32) (v669 : Vec F S8x128 .i32) (v670 : Vec F S8x128 .i32) (v671 : Vec F S8x128 .i32) (v672 : Vec F S8x128 .i32) (v673 : Vec F S8x128 .i32) (v674 : Vec F S8x128 .i32) (v675 : Vec F S8x128 .i32) (v676 : Vec F S8x128 .i32) (init : _) :
    LoopInvTy_k0_t2 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) v1 v108 v109 v110 v111 v112 v113 v114 v115 v116 v117 v118 v119 v120 v121 v122 v123 v669 v670 v671 v672 v673 v674 v675 v676 init where
  inv k _ := iprop(⌜True⌝)
  step k acc := by
    iintro %_
    sl_unfold [k0_t2_body]
    sl_exec
    sl_step
    ipureintro
    trivial

set_option maxHeartbeats 4000000 in
/-- On any whole staging memrefs and any scratch the kernel runs to its return, hands back the ten inputs as they were
    and the three results and the scratch at some contents. -/
theorem kernelRun
    (x0 : Vec F S640x128 .f32)
    (x1 : Vec F S640x128 .f32)
    (x2 : Vec F S640x128 .f32)
    (x3 : Vec F S640x128 .f32)
    (x4 : Vec F S640x128 .f32)
    (x5 : Vec F S640x128 .f32)
    (x6 : Vec F S640x128 .f32)
    (x7 : Vec F S640x128 .f32)
    (x8 : Vec F S8x1024x4 .f32)
    (x9 : Vec F S8x4 .f32) (K : PUnit → sProp 𝕄) :
    iprop(scr c
      ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
      ∗ (∃ d, owns (c : Thread nD τ) arg10 fullShare d) ∗ (∃ d, owns (c : Thread nD τ) arg11 fullShare d) ∗ (∃ d, owns (c : Thread nD τ) arg12 fullShare d)
      ∗ (iprop(scr c
          ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
          ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) 𝒱₀ c none) Set.univ (cc0__topk_kernel arg0 harg0 arg1 harg1 arg2 harg2 arg3 harg3 arg4 harg4 arg5 harg5 arg6 harg6 arg7 harg7 arg8 harg8 arg9 harg9 arg10 harg10 arg11 harg11 arg12 harg12
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _)) K := by
  unfold owns
  iintro ⟨HS, ⟨%g0, %hg0, G0⟩, ⟨%g1, %hg1, G1⟩, ⟨%g2, %hg2, G2⟩, ⟨%g3, %hg3, G3⟩, ⟨%g4, %hg4, G4⟩, ⟨%g5, %hg5, G5⟩, ⟨%g6, %hg6, G6⟩, ⟨%g7, %hg7, G7⟩, ⟨%g8, %hg8, G8⟩, ⟨%g9, %hg9, G9⟩, ⟨%d10, %g10, -, G10⟩, ⟨%d11, %g11, -, G11⟩, ⟨%d12, %g12, -, G12⟩, Hk⟩
  icases HS with ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_unfold [cc0__topk_kernel]
  sl_exec
  refine ite_split c (fun hc => ?_) (fun hc => ?_)
  all_goals
    sl_exec
    refine ite_split c (fun hd => ?_) (fun hd => ?_)
    all_goals
      sl_exec
      sl_step
      iapply Hk
      isplitl [H0 H1 H2 H3 H4 H5 H6 H7 H8 H9 H10 H11 H12 H13 H14 H15 H16 H17 H18 H19 H20 H21 H22 H23 H24]
      · isplitl [H0]; · iexists _; iexact H0
        isplitl [H1]; · iexists _; iexact H1
        isplitl [H2]; · iexists _; iexact H2
        isplitl [H3]; · iexists _; iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        isplitl [H22]; · iexists _; iexact H22
        isplitl [H23]; · iexists _; iexact H23
        iexists _; iexact H24
      isplitl [G0]; · iapply (owns_of c hg0) $$ G0
      isplitl [G1]; · iapply (owns_of c hg1) $$ G1
      isplitl [G2]; · iapply (owns_of c hg2) $$ G2
      isplitl [G3]; · iapply (owns_of c hg3) $$ G3
      isplitl [G4]; · iapply (owns_of c hg4) $$ G4
      isplitl [G5]; · iapply (owns_of c hg5) $$ G5
      isplitl [G6]; · iapply (owns_of c hg6) $$ G6
      isplitl [G7]; · iapply (owns_of c hg7) $$ G7
      isplitl [G8]; · iapply (owns_of c hg8) $$ G8
      isplitl [G9]; · iapply (owns_of c hg9) $$ G9
      isplitl [G10]; · iapply (ex_owns c) $$ G10
      isplitl [G11]; · iapply (ex_owns c) $$ G11
      iapply (ex_owns c) $$ G12

end Loops

end Cert.KernelIdeal.Hand
end
-- ==== Proof.KernelIdealFrame.lean ====
/-
  The idealized program's frame: from any memory it runs to the end without a fault, leaves its three arguments as
  they were and every counter at zero. The three results are forgotten: nothing is said of what they hold.
-/
module

public import proofs.«01_k».proof.Proof.KernelIdealBody
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents after the body are forgotten: the three results. -/
def fgt (w : Fin 13) : Bool := match w with
  | ⟨10, _⟩ => true
  | ⟨11, _⟩ => true
  | ⟨12, _⟩ => true
  | _ => false

/-- The arrays as the region finds them; after the body each input's buffer at its block; the invariant the scratch and
    the generator's register at any contents; nothing owed; full shares. -/
def dats (_ : Fin 1) (c : Dev nD) : Dat τ (Elt F) Unit ℕ (UR sig nD τ) ℕ cfg0 c where
  A w := V m c (Pipeline.arrRef spec0 w)
  after w t := match w with

    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun _ => Classical.choice inferInstance
    | ⟨11, _⟩ => fun _ => Classical.choice inferInstance
    | ⟨12, _⟩ => fun _ => Classical.choice inferInstance
  Φ _ := Pipeline.ΦA spec0 c
  q _ := fullShare
  owed _ := 0

/-- The array behind a window before the launch. -/
theorem A_eq (c : Dev nD) (w : Fin cfg0.W) : (dats m 0 c).A w = V m c (Pipeline.arrRef spec0 w) := rfl

/-- A window that is only read holds its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

set_option maxHeartbeats 4000000 in
/-- The kernel's scratch buffers, as the launch hands them over. -/
theorem scr_of (c : Dev nD) : (Pipeline.scopedRest (Ix := Unit) (Name := ℕ) (U := UR sig nD τ) (Lvl := ℕ) (Val := Elt F) spec0 c : sProp 𝕄) = scr c :=
  scopedRest0_eq c

/-- The body meets what the launch asks of it. -/
theorem body_obligation (c : Dev nD) : BodyObligationLoose (dats (F := F) m 0 c) (defs₀ (F := F)) 𝒱₀ () Set.univ fgt := fun t => by
  rw [bigSep_W0, bigSep_W0]
  sl_whnfR [defs₀, Defs.onTc]
  simp only [fgt, before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9,
    show (dats m 0 c).Φ t.castSucc = Pipeline.ΦA spec0 c from rfl]
  unfold Pipeline.ΦA
  rw [scr_of]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12⟩
  iapply (kernelRun c _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨HS, H0, H1, H2, H3, H4, H5, H6, H7, H8, H9, H10, H11, H12⟩
  isplitl [HS HR]; · isplitl [HS]; · iexact HS
                     iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The buffers the lines after the kernel write: the program's results. -/
def T : Finset (Ref sig .tc) := {main_v32, main_v33, main_v34}

/-- What the operations after the launch write. -/
theorem sfx_writes : ∀ ops ∈ ([hostOps1] : List (List (HloOp τ sig (Elt F)))), ∀ op ∈ ops,
    ∀ b : Ref sig .tc, Proc.devRef .tc b ∈ op.writes → b ∈ T := by
  intro ops hops op hop b hb
  rw [List.mem_singleton] at hops
  subst hops
  simp only [hostOps1, List.mem_cons, List.not_mem_nil, or_false] at hop
  rcases hop with rfl | rfl | rfl <;>
  · simp only [StableHlo.unary_writes, Finset.mem_singleton] at hb
    have := Proc.devRef_injective _ hb
    subst this
    decide

set_option backward.isDefEq.respectTransparency.types false in
/-- The program's run, its results forgotten: the arguments are what they were. -/
theorem run_main : θ_run defs (onTc (τ := τ) (main (F := F))) (s₀ m ρ)
    (fun r => Pipeline.RDat.FramePostR cfg0 (fun c => (dats m 0 c).toRForget fgt) T (V m) r ∧ r.2.sem = fun _ => 0) :=
  Pipeline.θ_run_frame_around_T_forget (Q' := _) cfgs (dats m) (0 : Fin 1) launch0 defs₀ 𝒱₀ fgt T m ρ main
    (hbody := body_obligation m) (hshare := fun c => (dats m 0 c).share_full fun _ => rfl)
    (howed := fun _ _ => rfl) (V₀ := V0 m) (opss := [hostOps1]) sfx_sub sfx_fresh sfx_keeps sfx_writes
    (hmain := hmain m 𝒱₀) (hA := fun _ _ => rfl) (hΦ := fun _ _ => rfl)

/-- The program terminates without a fault and leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => by
    have at_arg (c : Dev nD) (b : Ref sig .tc) (hb : b ∈ Pipeline.restRefs sig spec0 \ T) :
        r.2.mem ((c.tc : Thread nD τ).loc b) = V m c b := (h.1 c).2 b hb
    exact ⟨fun c => ⟨(at_arg c main_arg0 (Finset.mem_sdiff.mpr ⟨Pipeline.mem_restRefs_of main_arg0 (by decide) (by decide), by decide⟩)).trans (V_main_arg0 m c),
      (at_arg c main_arg1 (Finset.mem_sdiff.mpr ⟨Pipeline.mem_restRefs_of main_arg1 (by decide) (by decide), by decide⟩)).trans (V_main_arg1 m c),
      (at_arg c main_arg2 (Finset.mem_sdiff.mpr ⟨Pipeline.mem_restRefs_of main_arg2 (by decide) (by decide), by decide⟩)).trans (V_main_arg2 m c)⟩, h.2⟩)
    (run_main m ρ)

end Cert.KernelIdeal.Hand

end
-- ==== Proof.Peel.lean ====
/-
  The kernel's computation on one batch element, as functions of vectors: one peeling trip (the largest score of each
  column, its first row, the array without it), the rows collected by a number of trips, the trip at which the peeling
  stops, and the selection of the largest collected score round by round.
-/
module

public import proofs.«01_k».proof.Proof.Gen.KernelIdeal.Skeleton
public import Idealize.ShloMosaic.Lib.Pointwise.Index

@[expose] public section

set_option maxRecDepth 16384

noncomputable section

namespace Cert.KernelIdeal.Val

open Cert.KernelIdeal Cert.KernelIdeal.Gen
open Idealize.ShloMosaic

variable {F : FTy → Type} [FloatOps F]

/-! ## Peeling -/

/-- The largest score of each column. -/
def colMax (x : Vec F S640x128 .f32) : FVec F S1x128 .f32 := k0_pay4 x

/-- The first row at which each column holds its largest score, times 128 plus the column: the flat position. -/
def colPos (v0 : IVec S640x128 32) (v1 : IVec S1x128 32) (x : Vec F S640x128 .f32) : IVec S1x128 32 := k0_pay5 v0 v1 x

/-- The array with that row of each column overwritten by the padding value. -/
def peelNext (v0 : IVec S640x128 32) (x : Vec F S640x128 .f32) : FVec F S640x128 .f32 := k0_pay7 v0 x

/-- One where at least 100 of the collected scores exceed everything left, else zero. -/
def enough (v0 : IVec S640x128 32) (x : Vec F S640x128 .f32) (ev : Vec F S104x128 .f32) : IVec S1x1 32 :=
  k0_pay9 (k0_pay8 v0 x ev) 100#32

/-- The array `a` with row `k` replaced. -/
def setRow {α : Type} (k : ℕ) (row : S1x128.Idx → α) (a : S104x128.Idx → α) : S104x128.Idx → α :=
  fun i => if (i 0).val = k then row (ix2 (0 : Fin 1) (i 1)) else a i

/-- The padding value. -/
def neg : F .f32 := Scalar.ofBits .f32 0xF149F2CA#32

/-- What is left of the scores after `s` trips. -/
def peelX (v0 : IVec S640x128 32) (X : Vec F S640x128 .f32) : ℕ → Vec F S640x128 .f32
  | 0 => X
  | s + 1 => peelNext v0 (peelX v0 X s)

/-- The scores collected in `s` trips, one row a trip. -/
def peelEv (v0 : IVec S640x128 32) (X : Vec F S640x128 .f32) : ℕ → Vec F S104x128 .f32
  | 0 => broadcast S104x128 (neg (F := F))
  | s + 1 => setRow s (colMax (peelX v0 X s)) (peelEv v0 X s)

/-- The flat positions collected in `s` trips. -/
def peelEi (v0 : IVec S640x128 32) (v1 : IVec S1x128 32) (X : Vec F S640x128 .f32) : ℕ → Vec F S104x128 .i32
  | 0 => broadcast S104x128 0#32
  | s + 1 => setRow s (colPos v0 v1 (peelX v0 X s)) (peelEi v0 v1 X s)

/-- Whether batch element `x` has enough after trip `s`. -/
def okAt (v0 : IVec S640x128 32) (X : Vec F S640x128 .f32) (s : ℕ) : IVec S1x1 32 :=
  enough v0 (peelX v0 X s) (peelEv v0 X (s + 1))

/-- Whether every batch element has enough after trip `s`. -/
def flag (v0 : IVec S640x128 32) (X : Fin 8 → Vec F S640x128 .f32) (s : ℕ) : BitVec 32 :=
  extractAt ![0, 0] (muli (muli (muli (muli (muli (muli (muli (okAt v0 (X 0) s) (okAt v0 (X 1) s)) (okAt v0 (X 2) s)) (okAt v0 (X 3) s))
    (okAt v0 (X 4) s)) (okAt v0 (X 5) s)) (okAt v0 (X 6) s)) (okAt v0 (X 7) s)) inpos_S1x1_p0_0

/-- After `t` turns of the loop: the trips taken and the flag. -/
def stop (v0 : IVec S640x128 32) (X : Fin 8 → Vec F S640x128 .f32) : ℕ → ℕ × BitVec 32
  | 0 => (0, 0#32)
  | t + 1 => if (stop v0 X t).2 = 0#32 then ((stop v0 X t).1 + 1, flag v0 X (stop v0 X t).1) else stop v0 X t

/-- While the flag is down every turn took a trip. -/
theorem stop_fst (v0 : IVec S640x128 32) (X : Fin 8 → Vec F S640x128 .f32) :
    ∀ t, (stop v0 X t).2 = 0#32 → (stop v0 X t).1 = t
  | 0, _ => rfl
  | t + 1, h => by
    by_cases h0 : (stop v0 X t).2 = 0#32
    · rw [stop, if_pos h0]
      exact congrArg (· + 1) (stop_fst v0 X t h0)
    · rw [stop, if_neg h0] at h
      exact absurd h h0

/-- A turn of the peeling makes a trip while the flag is zero, -/
theorem stop_succ_of_zero (v0 : IVec S640x128 32) (X : Fin 8 → Vec F S640x128 .f32) (t : ℕ) (h : (stop v0 X t).2 = 0#32) :
    stop v0 X (t + 1) = (t + 1, flag v0 X t) := by
  rw [stop, if_pos h, stop_fst v0 X t h]

/-- and changes nothing once it is set. -/
theorem stop_succ_of_ne (v0 : IVec S640x128 32) (X : Fin 8 → Vec F S640x128 .f32) (t : ℕ) (h : ¬ (stop v0 X t).2 = 0#32) :
    stop v0 X (t + 1) = stop v0 X t := by
  rw [stop, if_neg h]

/-! ## Selection -/

/-- `h` collected rows. -/
abbrev rowsShape (h : ℕ) : Shape := ⟨2, ![h, 128]⟩

/-- What the selection's operations ask of the shapes. -/
structure Sides (h : ℕ) : Prop where
  red : (rowsShape h).Reduces [0] S128
  bc : S1x1.Broadcasts (rowsShape h)

variable {h : ℕ} (hs : Sides h)

/-- The largest of the scores. -/
def selMax (ev : FVec F (rowsShape h) .f32) : FVec F S1x1 .f32 :=
  shapeCast S1x1 (multiReduction .maximumf [1] S1 (shapeCast S1x128 (multiReduction .maximumf [0] S128 ev 0xFF800000#32 hs.red (.inl rfl) rfl) shapeCasts_S128_S1x128)
    0xFF800000#32 reduces_S1x128_S1 (.inl rfl) rfl) shapeCasts_S1_S1x1

/-- Where the scores equal the largest. -/
def selHit (ev : FVec F (rowsShape h) .f32) : IVec (rowsShape h) 1 := cmpf .oeq ev (broadcastTo (rowsShape h) (selMax hs ev) hs.bc)

/-- The smallest flat position among those. -/
def selPos (ei : IVec (rowsShape h) 32) (ev : FVec F (rowsShape h) .f32) : IVec S1x1 32 :=
  shapeCast S1x1 (multiReductionI .minsi [1] S1 (shapeCast S1x128 (multiReductionI .minsi [0] S128
    (select (selHit hs ev) ei (broadcast (rowsShape h) 1073741824#32)) 2147483647#32 hs.red rfl) shapeCasts_S128_S1x128)
    2147483647#32 reduces_S1x128_S1 rfl) shapeCasts_S1_S1x1

/-- The scores without it. -/
def selNext (ei : IVec (rowsShape h) 32) (ev : FVec F (rowsShape h) .f32) : FVec F (rowsShape h) .f32 :=
  select (andi (selHit hs ev) (cmpi .eq ei (broadcastTo (rowsShape h) (selPos hs ei ev) hs.bc))) (broadcast (rowsShape h) (neg (F := F))) ev

/-- The row `a` with lane `w` set to `m`. -/
def setLane {α : Type} (v1 : IVec S1x128 32) (w : BitVec 32) (m : S1x1.Idx → α) (a : S1x128.Idx → α) : S1x128.Idx → α :=
  select (cmpi .eq v1 (broadcast S1x128 w)) (broadcastTo S1x128 (shapeCast S1x1 m shapeCasts_S1x1_S1x1) broadcasts_S1x1_S1x128) a

/-- The scores after `k` rounds. -/
def selEv (ei : IVec (rowsShape h) 32) (ev : FVec F (rowsShape h) .f32) : ℕ → FVec F (rowsShape h) .f32
  | 0 => ev
  | k + 1 => selNext hs ei (selEv ei ev k)

/-- The selected scores after `k` rounds, one lane a round. -/
def selS (v1 : IVec S1x128 32) (ei : IVec (rowsShape h) 32) (ev : FVec F (rowsShape h) .f32) : ℕ → FVec F S1x128 .f32
  | 0 => broadcast S1x128 (neg (F := F))
  | k + 1 => setLane v1 (BitVec.ofNat 32 k) (selMax hs (selEv hs ei ev k)) (selS v1 ei ev k)

/-- The selected flat positions after `k` rounds. -/
def selF (v1 : IVec S1x128 32) (ei : IVec (rowsShape h) 32) (ev : FVec F (rowsShape h) .f32) : ℕ → IVec S1x128 32
  | 0 => broadcast S1x128 0#32
  | k + 1 => setLane v1 (BitVec.ofNat 32 k) (selPos hs ei (selEv hs ei ev k)) (selF v1 ei ev k)

/-- The side conditions at eight rows. -/
theorem sides8 : Sides 8 := ⟨reduces_S8x128_S128, broadcasts_S1x1_S8x128⟩
theorem sides104 : Sides 104 := ⟨reduces_S104x128_S128, broadcasts_S1x1_S104x128⟩

/-- The first eight collected rows. -/
def top8 {α : Type} (a : S104x128.Idx → α) : S8x128.Idx → α := fun i => a (ix2 (Fin.castLE (by decide) (i 0)) (i 1))

end Cert.KernelIdeal.Val
-- ==== Proof.ValPeel.lean ====
/-
  The peeling loop of the idealized kernel's body: after any number of turns the scratch buffers hold what the trips taken
  so far leave, and the two counters tell how many those are and whether every batch element has enough.
-/
module

public import proofs.«01_k».proof.Proof.Gen.KernelIdeal.Loops
public import proofs.«01_k».proof.Proof.Gen.KernelIdeal.Frame
public import proofs.«01_k».proof.Proof.Peel
public import Idealize.ShloMosaic.Lib.Tactic
public import Idealize.ShloMosaic.Lib.WritesUnit
public import Idealize.ShloMosaic.Lib.Pipeline.Kit
public import Idealize.ShloMosaic.Lib.Pipeline.FrameBody

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- No label recurses. -/
abbrev 𝒱₀ : Variants := Variants.none

/-- A memref's buffer on core `c`, held whole at the contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A branch runs if each side runs under its condition. -/
theorem ite_split (c : Dev nD) {C : Prop} [Decidable C] {α : Type} {R : sProp 𝕄} {Q : α → sProp 𝕄}
    {A B : Prog (TpuEff nD τ sig (Elt F) Λ₀ .tc) α}
    (hA : C → Entails' R (wp frame (wpE (defs₀ (F := F)) 𝒱₀ c none) Set.univ A Q))
    (hB : ¬C → Entails' R (wp frame (wpE (defs₀ (F := F)) 𝒱₀ c none) Set.univ B Q)) :
    Entails' R (wp frame (wpE (defs₀ (F := F)) 𝒱₀ c none) Set.univ (if C then A else B) Q) := by
  split
  · exact hA ‹_›
  · exact hB ‹_›

/-- A held buffer that reads as `x` is the window at `x`. -/
theorem owns_of (c : Dev nD) {sp : Space} {S : Shape} {e : EltTy} {M : Memref sig .tc sp S e} {g : Buf (Elt F) (M.view.loc (c : Thread nD τ))} {x : Vec F S e}
    (h : M.view.read (Elt F) g = x) : (M.view.loc (c : Thread nD τ) ↦[M.view.set]{fullShare} g : sProp 𝕄) ⊢ iprop(∃ f, ⌜M.view.read (Elt F) f = x⌝ ∗ (M.view.loc (c : Thread nD τ) ↦[M.view.set]{fullShare} f)) := by
  iintro H
  iexists g
  isplitr
  · ipureintro; exact h
  · iexact H

/-- A held buffer is the window at some contents. -/
theorem ex_owns (c : Dev nD) {sp : Space} {S : Shape} {e : EltTy} {M : Memref sig .tc sp S e} {g : Buf (Elt F) (M.view.loc (c : Thread nD τ))} :
    (M.view.loc (c : Thread nD τ) ↦[M.view.set]{fullShare} g : sProp 𝕄) ⊢ iprop(∃ d, ∃ f, ⌜M.view.read (Elt F) f = d⌝ ∗ (M.view.loc (c : Thread nD τ) ↦[M.view.set]{fullShare} f)) := by
  iintro H
  iexists _
  iapply (owns_of c rfl) $$ H

/-- A load of a whole buffer reads its contents. -/
theorem rd (b : Ref sig .tc) {off : Fin b.ty.shape.rank → Nat} (h : off = fun _ => 0) (inb : ∀ a, off a + b.ty.shape.size a ≤ b.ty.shape.size a)
    (f : b.ty.Contents (Elt F)) : (Memref.whole b).view.readAt (Elt F) (Rect.unit off b.ty.shape.size inb).toLoadRect f = f :=
  Memref.readAt_unit_zero (Elt F) b h inb f

/-- A store of a whole buffer leaves its payload. -/
theorem wr (b : Ref sig .tc) {off : Fin b.ty.shape.rank → Nat} (h : off = fun _ => 0) (inb : ∀ a, off a + b.ty.shape.size a ≤ b.ty.shape.size a)
    (f w : b.ty.Contents (Elt F)) : (Memref.whole b).view.writes (Elt F) f [⟨Rect.unit off b.ty.shape.size inb, w⟩] = w :=
  Memref.write_access_unit_zero_univ (Elt F) b h inb f w

/-- The zero offsets of a rank-two access. -/
theorem z2 : (![0, 0] : Fin 2 → ℕ) = fun _ => 0 := by
  funext a; fin_cases a <;> rfl

/-- The guard's word is true exactly while the flag is down. -/
theorem guard_iff (w : BitVec 32) : Scalar.cmpi .ne (Scalar.extui (Scalar.cmpi .eq w 0#32) : BitVec 32) 0#32 = 1#1 ↔ w = 0#32 := by
  by_cases h : w = 0#32
  · subst h; exact iff_of_true (by decide) rfl
  · have e : Scalar.cmpi .eq w 0#32 = 0#1 := by
      show BitVec.ofBool (w == 0#32) = 0#1
      rw [beq_eq_false_iff_ne.mpr h]; rfl
    rw [e]
    exact iff_of_false (by decide) h

/-- Storing one row of the collected rows replaces that row. -/
theorem row_store {e : EltTy} (v : View sig .tc .vmem S104x128 e) (f : v.ty.Contents (Elt F)) (k : Fin k0_t1_loop.trips)
    (inb : ∀ a, k0_off1 k a + S1x128.size a ≤ S104x128.size a) (w : S1x128.Idx → Elt F e) :
    v.read (Elt F) (v.writes (Elt F) f [⟨Rect.unit (k0_off1 k) S1x128.size inb, w⟩]) = setRow k.val w (v.read (Elt F) f) := by
  funext y
  refine (View.read_writes_cons_rows (o := k.val) (W := 1) v f inb w [] y (k0_off1_eq k) rfl rfl).trans ?_
  unfold setRow
  by_cases h : (y 0).val = k.val
  · rw [dif_pos ⟨by omega, by omega⟩, if_pos h]
    refine congrArg w (funext fun a => Fin.ext ?_)
    rw [Rect.unitLocal_val]
    match a with
    | ⟨0, _⟩ => exact (congrArg (· - k.val) h).trans (Nat.sub_self _)
    | ⟨1, _⟩ => rfl
  · rw [dif_neg (by omega), if_neg h]
    rfl

/-- The two counters after both are stored. -/
theorem counts_store (v : View sig .tc .smem S2 .i32) (f : v.ty.Contents (Elt F)) (a b : BitVec 32)
    (h0 : ∀ x, (![0] : Fin 1 → ℕ) x + S1.size x ≤ S2.size x) (h1 : ∀ x, (![1] : Fin 1 → ℕ) x + S1.size x ≤ S2.size x) :
    v.read (Elt F) (v.writes (Elt F) f [⟨Rect.unit ![1] S1.size h1, fun _ => b⟩, ⟨Rect.unit ![0] S1.size h0, fun _ => a⟩]) (ix1 (0 : Fin 2)) = a
      ∧ v.read (Elt F) (v.writes (Elt F) f [⟨Rect.unit ![1] S1.size h1, fun _ => b⟩, ⟨Rect.unit ![0] S1.size h0, fun _ => a⟩]) (ix1 (1 : Fin 2)) = b := by
  constructor
  · refine (View.read_writes_cons_unit_of_not_mem v f h1 _ _ _ rfl 0 (Or.inl (by decide))).trans ?_
    exact View.read_writes_cons_unit_of_mem v f h0 _ _ _ (ix1 (0 : Fin 1)) rfl fun a => by fin_cases a; rfl
  · exact View.read_writes_cons_unit_of_mem v f h1 _ _ _ (ix1 (0 : Fin 1)) rfl fun a => by fin_cases a; rfl

/-- The last batch element's array after a trip, as the trip computes it. -/
theorem next7 (v0 : IVec S640x128 32) (x : Vec F S640x128 .f32) :
    k0_pay195 x (k0_pay60 v0 x) (Scalar.ofBits .f32 0xF149F2CA#32) = peelNext v0 x := rfl

/-- The counter's word of turn `k`. -/
theorem iv_eq (k : ℕ) : Scf.iv 0#32 1#32 k = BitVec.ofNat 32 k := by
  show 0#32 + BitVec.ofNat 32 k * 1#32 = BitVec.ofNat 32 k
  rw [BitVec.mul_one, BitVec.zero_add]

/-- A held buffer may be restated at equal contents. -/
theorem pt_eq (c : Dev nD) {sp : Space} {S : Shape} {e : EltTy} {M : Memref sig .tc sp S e} {f g : Buf (Elt F) (M.view.loc (c : Thread nD τ))} :
    ⊢ (iprop(pt c M f -∗ ⌜f = g⌝ -∗ pt c M g) : sProp 𝕄) := by
  iintro H %h
  rw [h]
  iexact H

/-- The scratch buffers after `s` trips. -/
abbrev peelPts (c : Dev nD) (v0 : IVec S640x128 32) (v1 : IVec S1x128 32) (X : Fin 8 → Vec F S640x128 .f32) (s : ℕ) : sProp 𝕄 :=
  iprop(pt c (Memref.whole cc0_scratch0) (peelX v0 (X 0) s) ∗ pt c (Memref.whole cc0_scratch1) (peelX v0 (X 1) s) ∗ pt c (Memref.whole cc0_scratch2) (peelX v0 (X 2) s) ∗ pt c (Memref.whole cc0_scratch3) (peelX v0 (X 3) s) ∗ pt c (Memref.whole cc0_scratch4) (peelX v0 (X 4) s) ∗ pt c (Memref.whole cc0_scratch5) (peelX v0 (X 5) s) ∗ pt c (Memref.whole cc0_scratch6) (peelX v0 (X 6) s) ∗ pt c (Memref.whole cc0_scratch7) (peelX v0 (X 7) s) ∗ pt c (Memref.whole cc0_scratch8) (peelEv v0 (X 0) s) ∗ pt c (Memref.whole cc0_scratch9) (peelEv v0 (X 1) s) ∗ pt c (Memref.whole cc0_scratch10) (peelEv v0 (X 2) s) ∗ pt c (Memref.whole cc0_scratch11) (peelEv v0 (X 3) s) ∗ pt c (Memref.whole cc0_scratch12) (peelEv v0 (X 4) s) ∗ pt c (Memref.whole cc0_scratch13) (peelEv v0 (X 5) s) ∗ pt c (Memref.whole cc0_scratch14) (peelEv v0 (X 6) s) ∗ pt c (Memref.whole cc0_scratch15) (peelEv v0 (X 7) s) ∗ pt c (Memref.whole cc0_scratch16) (peelEi v0 v1 (X 0) s) ∗ pt c (Memref.whole cc0_scratch17) (peelEi v0 v1 (X 1) s) ∗ pt c (Memref.whole cc0_scratch18) (peelEi v0 v1 (X 2) s) ∗ pt c (Memref.whole cc0_scratch19) (peelEi v0 v1 (X 3) s) ∗ pt c (Memref.whole cc0_scratch20) (peelEi v0 v1 (X 4) s) ∗ pt c (Memref.whole cc0_scratch21) (peelEi v0 v1 (X 5) s) ∗ pt c (Memref.whole cc0_scratch22) (peelEi v0 v1 (X 6) s) ∗ pt c (Memref.whole cc0_scratch23) (peelEi v0 v1 (X 7) s))

/-- What the two counters hold after `k` turns. -/
def Counts (v0 : IVec S640x128 32) (X : Fin 8 → Vec F S640x128 .f32) (k : ℕ) (d : S2.Idx → Elt F .i32) : Prop :=
  d (ix1 (0 : Fin 2)) = (stop v0 X k).2 ∧ (0 < k → d (ix1 (1 : Fin 2)) = BitVec.ofNat 32 (stop v0 X k).1)

section Loops

variable (c : Dev nD)
  (arg0 : Memref sig .tc .vmem S640x128 .f32) (harg0 : arg0.IsWhole)
  (arg1 : Memref sig .tc .vmem S640x128 .f32) (harg1 : arg1.IsWhole)
  (arg2 : Memref sig .tc .vmem S640x128 .f32) (harg2 : arg2.IsWhole)
  (arg3 : Memref sig .tc .vmem S640x128 .f32) (harg3 : arg3.IsWhole)
  (arg4 : Memref sig .tc .vmem S640x128 .f32) (harg4 : arg4.IsWhole)
  (arg5 : Memref sig .tc .vmem S640x128 .f32) (harg5 : arg5.IsWhole)
  (arg6 : Memref sig .tc .vmem S640x128 .f32) (harg6 : arg6.IsWhole)
  (arg7 : Memref sig .tc .vmem S640x128 .f32) (harg7 : arg7.IsWhole)
  (arg8 : Memref sig .tc .vmem S8x1024x4 .f32) (harg8 : arg8.IsWhole)
  (arg9 : Memref sig .tc .vmem S8x4 .f32) (harg9 : arg9.IsWhole)
  (arg10 : Memref sig .tc .vmem S8x128 .f32) (harg10 : arg10.IsWhole)
  (arg11 : Memref sig .tc .vmem S8x128 .i32) (harg11 : arg11.IsWhole)
  (arg12 : Memref sig .tc .vmem S8x128x4 .f32) (harg12 : arg12.IsWhole)

set_option maxHeartbeats 4000000 in
set_option warn.classDefReducibility false in
/-- The peeling loop's invariant and its trip. -/
def T1 (v0 : IVec S640x128 32) (v1 : IVec S1x128 32) (v89 : IVec S104x128 32) (X : Fin 8 → Vec F S640x128 .f32) :
    LoopInvTy_k0_t1 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) v0 v1 v89 where
  inv k _ := iprop(∃ d, ⌜Counts v0 X k d⌝ ∗ pt c (Memref.whole cc0_scratch24) d ∗ peelPts c v0 v1 X (stop v0 X k).1)
  step k _ := by
    iintro ⟨%d, %hd, H24, H0, H1, H2, H3, H4, H5, H6, H7, H8, H9, H10, H11, H12, H13, H14, H15, H16, H17, H18, H19, H20, H21, H22, H23⟩
    sl_unfold [k0_t1_body]
    sl_exec
    sl_step
    have hcond : Iff (T1.sl.v664 d = 1#1) ((stop v0 X k).2 = 0#32) := by
      rw [← hd.1]
      refine Iff.trans (guard_iff _) (Eq.to_iff (congrArg (· = 0#32) ?_))
      exact congrArg (show S2.Idx → Elt F .i32 from d) (funext fun a => by fin_cases a; rfl)
    by_cases hg : (stop v0 X k).2 = 0#32
    · have hc := hcond.2 hg
      have e0 : (stop v0 X k).1 = k := stop_fst v0 X k hg
      have r0 : T1.sl.v665 v0 X k = peelX v0 (X 0) k := (rd cc0_scratch0 z2 _ _).trans (congrArg (peelX v0 (X 0)) e0)
      have r1 : T1.sl.v707 v0 X k = peelX v0 (X 1) k := (rd cc0_scratch1 z2 _ _).trans (congrArg (peelX v0 (X 1)) e0)
      have r2 : T1.sl.v750 v0 X k = peelX v0 (X 2) k := (rd cc0_scratch2 z2 _ _).trans (congrArg (peelX v0 (X 2)) e0)
      have r3 : T1.sl.v793 v0 X k = peelX v0 (X 3) k := (rd cc0_scratch3 z2 _ _).trans (congrArg (peelX v0 (X 3)) e0)
      have r4 : T1.sl.v836 v0 X k = peelX v0 (X 4) k := (rd cc0_scratch4 z2 _ _).trans (congrArg (peelX v0 (X 4)) e0)
      have r5 : T1.sl.v879 v0 X k = peelX v0 (X 5) k := (rd cc0_scratch5 z2 _ _).trans (congrArg (peelX v0 (X 5)) e0)
      have r6 : T1.sl.v922 v0 X k = peelX v0 (X 6) k := (rd cc0_scratch6 z2 _ _).trans (congrArg (peelX v0 (X 6)) e0)
      have r7 : T1.sl.v965 v0 X k = peelX v0 (X 7) k := (rd cc0_scratch7 z2 _ _).trans (congrArg (peelX v0 (X 7)) e0)
      rw [stop_succ_of_zero v0 X k hg, e0]
      iexists _
      isplitr
      rotate_left
      isplitl [H24]; · iexact H24
      isplitl [H0]
      · iapply (pt_eq c) $$ H0
        ipureintro
        exact (dif_pos hc).trans ((wr cc0_scratch0 z2 _ _ _).trans (congrArg (peelNext v0) r0))
      isplitl [H1]
      · iapply (pt_eq c) $$ H1
        ipureintro
        exact (dif_pos hc).trans ((wr cc0_scratch1 z2 _ _ _).trans (congrArg (peelNext v0) r1))
      isplitl [H2]
      · iapply (pt_eq c) $$ H2
        ipureintro
        exact (dif_pos hc).trans ((wr cc0_scratch2 z2 _ _ _).trans (congrArg (peelNext v0) r2))
      isplitl [H3]
      · iapply (pt_eq c) $$ H3
        ipureintro
        exact (dif_pos hc).trans ((wr cc0_scratch3 z2 _ _ _).trans (congrArg (peelNext v0) r3))
      isplitl [H4]
      · iapply (pt_eq c) $$ H4
        ipureintro
        exact (dif_pos hc).trans ((wr cc0_scratch4 z2 _ _ _).trans (congrArg (peelNext v0) r4))
      isplitl [H5]
      · iapply (pt_eq c) $$ H5
        ipureintro
        exact (dif_pos hc).trans ((wr cc0_scratch5 z2 _ _ _).trans (congrArg (peelNext v0) r5))
      isplitl [H6]
      · iapply (pt_eq c) $$ H6
        ipureintro
        exact (dif_pos hc).trans ((wr cc0_scratch6 z2 _ _ _).trans (congrArg (peelNext v0) r6))
      isplitl [H7]
      · iapply (pt_eq c) $$ H7
        ipureintro
        exact (dif_pos hc).trans ((wr cc0_scratch7 z2 _ _ _).trans ((congrArg (fun x => k0_pay195 x (k0_pay60 v0 x) (Scalar.ofBits .f32 0xF149F2CA#32)) r7).trans (next7 v0 _)))
      isplitl [H8]
      · iapply (pt_eq c) $$ H8
        ipureintro
        exact (dif_pos hc).trans ((row_store (F := F) (Memref.whole cc0_scratch8).view (peelEv v0 (X 0) k.val) k _ _).trans (congrArg (fun r => setRow k.val (colMax r) (peelEv v0 (X 0) k.val)) r0))
      isplitl [H9]
      · iapply (pt_eq c) $$ H9
        ipureintro
        exact (dif_pos hc).trans ((row_store (F := F) (Memref.whole cc0_scratch9).view (peelEv v0 (X 1) k.val) k _ _).trans (congrArg (fun r => setRow k.val (colMax r) (peelEv v0 (X 1) k.val)) r1))
      isplitl [H10]
      · iapply (pt_eq c) $$ H10
        ipureintro
        exact (dif_pos hc).trans ((row_store (F := F) (Memref.whole cc0_scratch10).view (peelEv v0 (X 2) k.val) k _ _).trans (congrArg (fun r => setRow k.val (colMax r) (peelEv v0 (X 2) k.val)) r2))
      isplitl [H11]
      · iapply (pt_eq c) $$ H11
        ipureintro
        exact (dif_pos hc).trans ((row_store (F := F) (Memref.whole cc0_scratch11).view (peelEv v0 (X 3) k.val) k _ _).trans (congrArg (fun r => setRow k.val (colMax r) (peelEv v0 (X 3) k.val)) r3))
      isplitl [H12]
      · iapply (pt_eq c) $$ H12
        ipureintro
        exact (dif_pos hc).trans ((row_store (F := F) (Memref.whole cc0_scratch12).view (peelEv v0 (X 4) k.val) k _ _).trans (congrArg (fun r => setRow k.val (colMax r) (peelEv v0 (X 4) k.val)) r4))
      isplitl [H13]
      · iapply (pt_eq c) $$ H13
        ipureintro
        exact (dif_pos hc).trans ((row_store (F := F) (Memref.whole cc0_scratch13).view (peelEv v0 (X 5) k.val) k _ _).trans (congrArg (fun r => setRow k.val (colMax r) (peelEv v0 (X 5) k.val)) r5))
      isplitl [H14]
      · iapply (pt_eq c) $$ H14
        ipureintro
        exact (dif_pos hc).trans ((row_store (F := F) (Memref.whole cc0_scratch14).view (peelEv v0 (X 6) k.val) k _ _).trans (congrArg (fun r => setRow k.val (colMax r) (peelEv v0 (X 6) k.val)) r6))
      isplitl [H15]
      · iapply (pt_eq c) $$ H15
        ipureintro
        exact (dif_pos hc).trans ((row_store (F := F) (Memref.whole cc0_scratch15).view (peelEv v0 (X 7) k.val) k _ _).trans (congrArg (fun r => setRow k.val (colMax r) (peelEv v0 (X 7) k.val)) r7))
      isplitl [H16]
      · iapply (pt_eq c) $$ H16
        ipureintro
        exact (dif_pos hc).trans ((row_store (F := F) (Memref.whole cc0_scratch16).view (peelEi v0 v1 (X 0) k.val) k _ _).trans (congrArg (fun r => setRow k.val (colPos v0 v1 r) (peelEi v0 v1 (X 0) k.val)) r0))
      isplitl [H17]
      · iapply (pt_eq c) $$ H17
        ipureintro
        exact (dif_pos hc).trans ((row_store (F := F) (Memref.whole cc0_scratch17).view (peelEi v0 v1 (X 1) k.val) k _ _).trans (congrArg (fun r => setRow k.val (colPos v0 v1 r) (peelEi v0 v1 (X 1) k.val)) r1))
      isplitl [H18]
      · iapply (pt_eq c) $$ H18
        ipureintro
        exact (dif_pos hc).trans ((row_store (F := F) (Memref.whole cc0_scratch18).view (peelEi v0 v1 (X 2) k.val) k _ _).trans (congrArg (fun r => setRow k.val (colPos v0 v1 r) (peelEi v0 v1 (X 2) k.val)) r2))
      isplitl [H19]
      · iapply (pt_eq c) $$ H19
        ipureintro
        exact (dif_pos hc).trans ((row_store (F := F) (Memref.whole cc0_scratch19).view (peelEi v0 v1 (X 3) k.val) k _ _).trans (congrArg (fun r => setRow k.val (colPos v0 v1 r) (peelEi v0 v1 (X 3) k.val)) r3))
      isplitl [H20]
      · iapply (pt_eq c) $$ H20
        ipureintro
        exact (dif_pos hc).trans ((row_store (F := F) (Memref.whole cc0_scratch20).view (peelEi v0 v1 (X 4) k.val) k _ _).trans (congrArg (fun r => setRow k.val (colPos v0 v1 r) (peelEi v0 v1 (X 4) k.val)) r4))
      isplitl [H21]
      · iapply (pt_eq c) $$ H21
        ipureintro
        exact (dif_pos hc).trans ((row_store (F := F) (Memref.whole cc0_scratch21).view (peelEi v0 v1 (X 5) k.val) k _ _).trans (congrArg (fun r => setRow k.val (colPos v0 v1 r) (peelEi v0 v1 (X 5) k.val)) r5))
      isplitl [H22]
      · iapply (pt_eq c) $$ H22
        ipureintro
        exact (dif_pos hc).trans ((row_store (F := F) (Memref.whole cc0_scratch22).view (peelEi v0 v1 (X 6) k.val) k _ _).trans (congrArg (fun r => setRow k.val (colPos v0 v1 r) (peelEi v0 v1 (X 6) k.val)) r6))
      iapply (pt_eq c) $$ H23
      ipureintro
      exact (dif_pos hc).trans ((row_store (F := F) (Memref.whole cc0_scratch23).view (peelEi v0 v1 (X 7) k.val) k _ _).trans (congrArg (fun r => setRow k.val (colPos v0 v1 r) (peelEi v0 v1 (X 7) k.val)) r7))
      ipureintro
      have hf : T1.sl.v1008 v0 X k = flag v0 X k.val := by
        have q0 : T1.sl.v696 v0 X k = peelEv v0 (X 0) (k.val + 1) :=
          (rd cc0_scratch8 z2 _ _).trans ((row_store (F := F) (Memref.whole cc0_scratch8).view (peelEv v0 (X 0) (stop v0 X k).1) k _ _).trans
            (congr (congrArg (fun r => setRow k.val (colMax r)) r0) (congrArg (peelEv v0 (X 0)) e0)))
        have q1 : T1.sl.v738 v0 X k = peelEv v0 (X 1) (k.val + 1) :=
          (rd cc0_scratch9 z2 _ _).trans ((row_store (F := F) (Memref.whole cc0_scratch9).view (peelEv v0 (X 1) (stop v0 X k).1) k _ _).trans
            (congr (congrArg (fun r => setRow k.val (colMax r)) r1) (congrArg (peelEv v0 (X 1)) e0)))
        have q2 : T1.sl.v781 v0 X k = peelEv v0 (X 2) (k.val + 1) :=
          (rd cc0_scratch10 z2 _ _).trans ((row_store (F := F) (Memref.whole cc0_scratch10).view (peelEv v0 (X 2) (stop v0 X k).1) k _ _).trans
            (congr (congrArg (fun r => setRow k.val (colMax r)) r2) (congrArg (peelEv v0 (X 2)) e0)))
        have q3 : T1.sl.v824 v0 X k = peelEv v0 (X 3) (k.val + 1) :=
          (rd cc0_scratch11 z2 _ _).trans ((row_store (F := F) (Memref.whole cc0_scratch11).view (peelEv v0 (X 3) (stop v0 X k).1) k _ _).trans
            (congr (congrArg (fun r => setRow k.val (colMax r)) r3) (congrArg (peelEv v0 (X 3)) e0)))
        have q4 : T1.sl.v867 v0 X k = peelEv v0 (X 4) (k.val + 1) :=
          (rd cc0_scratch12 z2 _ _).trans ((row_store (F := F) (Memref.whole cc0_scratch12).view (peelEv v0 (X 4) (stop v0 X k).1) k _ _).trans
            (congr (congrArg (fun r => setRow k.val (colMax r)) r4) (congrArg (peelEv v0 (X 4)) e0)))
        have q5 : T1.sl.v910 v0 X k = peelEv v0 (X 5) (k.val + 1) :=
          (rd cc0_scratch13 z2 _ _).trans ((row_store (F := F) (Memref.whole cc0_scratch13).view (peelEv v0 (X 5) (stop v0 X k).1) k _ _).trans
            (congr (congrArg (fun r => setRow k.val (colMax r)) r5) (congrArg (peelEv v0 (X 5)) e0)))
        have q6 : T1.sl.v953 v0 X k = peelEv v0 (X 6) (k.val + 1) :=
          (rd cc0_scratch14 z2 _ _).trans ((row_store (F := F) (Memref.whole cc0_scratch14).view (peelEv v0 (X 6) (stop v0 X k).1) k _ _).trans
            (congr (congrArg (fun r => setRow k.val (colMax r)) r6) (congrArg (peelEv v0 (X 6)) e0)))
        have q7 : T1.sl.v996 v0 X k = peelEv v0 (X 7) (k.val + 1) :=
          (rd cc0_scratch15 z2 _ _).trans ((row_store (F := F) (Memref.whole cc0_scratch15).view (peelEv v0 (X 7) (stop v0 X k).1) k _ _).trans
            (congr (congrArg (fun r => setRow k.val (colMax r)) r7) (congrArg (peelEv v0 (X 7)) e0)))
        show extractAt ![0, 0] (muli (muli (muli (muli (muli (muli (muli (enough v0 (T1.sl.v665 v0 X k) (T1.sl.v696 v0 X k)) (enough v0 (T1.sl.v707 v0 X k) (T1.sl.v738 v0 X k))) (enough v0 (T1.sl.v750 v0 X k) (T1.sl.v781 v0 X k))) (enough v0 (T1.sl.v793 v0 X k) (T1.sl.v824 v0 X k))) (enough v0 (T1.sl.v836 v0 X k) (T1.sl.v867 v0 X k))) (enough v0 (T1.sl.v879 v0 X k) (T1.sl.v910 v0 X k))) (enough v0 (T1.sl.v922 v0 X k) (T1.sl.v953 v0 X k))) (enough v0 (T1.sl.v965 v0 X k) (T1.sl.v996 v0 X k))) inpos_S1x1_p0_0 = _
        rw [r0, q0, r1, q1, r2, q2, r3, q3, r4, q4, r5, q5, r6, q6, r7, q7]
        rfl
      have hi : T1.sl.v1010 k = BitVec.ofNat 32 (k.val + 1) := by
        delta T1.sl.v1010 T1.sl.arg38
        rw [iv_eq]
        show BitVec.ofNat 32 k.val + 1#32 = _
        rw [BitVec.ofNat_add]
      rw [dif_pos hc]
      have hw := counts_store (F := F) (Memref.whole cc0_scratch24).view d (T1.sl.v1008 v0 X k) (T1.sl.v1010 k) inb_S2_S1_0 inb_S2_S1_1
      unfold Counts
      rw [stop_succ_of_zero v0 X k hg]
      exact ⟨hw.1.trans hf, fun _ => hw.2.trans hi⟩
    · have hc := fun h => hg (hcond.1 h)
      rw [stop_succ_of_ne v0 X k hg]
      iexists d
      isplitr
      · ipureintro
        unfold Counts
        rw [stop_succ_of_ne v0 X k hg]
        refine ⟨hd.1, fun _ => hd.2 (Nat.pos_of_ne_zero fun h0 => hg ?_)⟩
        rw [h0]; rfl
      isplitl [H24]
      · iapply (pt_eq c) $$ H24
        ipureintro
        exact dif_neg hc
      isplitl [H0]
      · iapply (pt_eq c) $$ H0
        ipureintro
        exact dif_neg hc
      isplitl [H1]
      · iapply (pt_eq c) $$ H1
        ipureintro
        exact dif_neg hc
      isplitl [H2]
      · iapply (pt_eq c) $$ H2
        ipureintro
        exact dif_neg hc
      isplitl [H3]
      · iapply (pt_eq c) $$ H3
        ipureintro
        exact dif_neg hc
      isplitl [H4]
      · iapply (pt_eq c) $$ H4
        ipureintro
        exact dif_neg hc
      isplitl [H5]
      · iapply (pt_eq c) $$ H5
        ipureintro
        exact dif_neg hc
      isplitl [H6]
      · iapply (pt_eq c) $$ H6
        ipureintro
        exact dif_neg hc
      isplitl [H7]
      · iapply (pt_eq c) $$ H7
        ipureintro
        exact dif_neg hc
      isplitl [H8]
      · iapply (pt_eq c) $$ H8
        ipureintro
        exact dif_neg hc
      isplitl [H9]
      · iapply (pt_eq c) $$ H9
        ipureintro
        exact dif_neg hc
      isplitl [H10]
      · iapply (pt_eq c) $$ H10
        ipureintro
        exact dif_neg hc
      isplitl [H11]
      · iapply (pt_eq c) $$ H11
        ipureintro
        exact dif_neg hc
      isplitl [H12]
      · iapply (pt_eq c) $$ H12
        ipureintro
        exact dif_neg hc
      isplitl [H13]
      · iapply (pt_eq c) $$ H13
        ipureintro
        exact dif_neg hc
      isplitl [H14]
      · iapply (pt_eq c) $$ H14
        ipureintro
        exact dif_neg hc
      isplitl [H15]
      · iapply (pt_eq c) $$ H15
        ipureintro
        exact dif_neg hc
      isplitl [H16]
      · iapply (pt_eq c) $$ H16
        ipureintro
        exact dif_neg hc
      isplitl [H17]
      · iapply (pt_eq c) $$ H17
        ipureintro
        exact dif_neg hc
      isplitl [H18]
      · iapply (pt_eq c) $$ H18
        ipureintro
        exact dif_neg hc
      isplitl [H19]
      · iapply (pt_eq c) $$ H19
        ipureintro
        exact dif_neg hc
      isplitl [H20]
      · iapply (pt_eq c) $$ H20
        ipureintro
        exact dif_neg hc
      isplitl [H21]
      · iapply (pt_eq c) $$ H21
        ipureintro
        exact dif_neg hc
      isplitl [H22]
      · iapply (pt_eq c) $$ H22
        ipureintro
        exact dif_neg hc
      iapply (pt_eq c) $$ H23
      ipureintro
      exact dif_neg hc

end Loops

end Cert.KernelIdeal.Val
-- ==== Proof.ValSelect.lean ====
/-
  The two selection loops of the idealized kernel's body. The one over the first eight collected rows carries them; the one
  over all of them keeps them in the scratch buffers. After any number of rounds both hold what that many rounds leave.
-/
module

public import proofs.«01_k».proof.Proof.ValPeel
public import Idealize.ShloMosaic.Lib.Pointwise.Reshape

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- Round `k` of the selection, its counter as the loop spells it: the selected scores, -/
theorem selS_iv {h : ℕ} (hs : Sides h) (v1 : IVec S1x128 32) (ei : IVec (rowsShape h) 32) (ev : FVec F (rowsShape h) .f32) (k : ℕ) :
    setLane v1 (Scf.iv 0#32 1#32 k) (selMax hs (selEv hs ei ev k)) (selS hs v1 ei ev k) = selS hs v1 ei ev (k + 1) := by
  rw [iv_eq]; rfl

/-- and the selected positions. -/
theorem selF_iv {h : ℕ} (hs : Sides h) (v1 : IVec S1x128 32) (ei : IVec (rowsShape h) 32) (ev : FVec F (rowsShape h) .f32) (k : ℕ) :
    setLane v1 (Scf.iv 0#32 1#32 k) (selPos hs ei (selEv hs ei ev k)) (selF hs v1 ei ev k) = selF hs v1 ei ev (k + 1) := by
  rw [iv_eq]; rfl

/-- What the selection over eight rows carries after `k` rounds. -/
abbrev carry8 (v1 : IVec S1x128 32) (E : Fin 8 → IVec S8x128 32) (V : Fin 8 → FVec F S8x128 .f32) (k : ℕ) :=
  (selEv sides8 (E 0) (V 0) k, selEv sides8 (E 1) (V 1) k, selEv sides8 (E 2) (V 2) k, selEv sides8 (E 3) (V 3) k, selEv sides8 (E 4) (V 4) k, selEv sides8 (E 5) (V 5) k, selEv sides8 (E 6) (V 6) k, selEv sides8 (E 7) (V 7) k, selS sides8 v1 (E 0) (V 0) k, selS sides8 v1 (E 1) (V 1) k, selS sides8 v1 (E 2) (V 2) k, selS sides8 v1 (E 3) (V 3) k, selS sides8 v1 (E 4) (V 4) k, selS sides8 v1 (E 5) (V 5) k, selS sides8 v1 (E 6) (V 6) k, selS sides8 v1 (E 7) (V 7) k, selF sides8 v1 (E 0) (V 0) k, selF sides8 v1 (E 1) (V 1) k, selF sides8 v1 (E 2) (V 2) k, selF sides8 v1 (E 3) (V 3) k, selF sides8 v1 (E 4) (V 4) k, selF sides8 v1 (E 5) (V 5) k, selF sides8 v1 (E 6) (V 6) k, selF sides8 v1 (E 7) (V 7) k)

/-- What the selection over all rows carries after `k` rounds. -/
abbrev carry104 (v1 : IVec S1x128 32) (E : Fin 8 → IVec S104x128 32) (V : Fin 8 → FVec F S104x128 .f32) (k : ℕ) :=
  (selS sides104 v1 (E 0) (V 0) k, selS sides104 v1 (E 1) (V 1) k, selS sides104 v1 (E 2) (V 2) k, selS sides104 v1 (E 3) (V 3) k, selS sides104 v1 (E 4) (V 4) k, selS sides104 v1 (E 5) (V 5) k, selS sides104 v1 (E 6) (V 6) k, selS sides104 v1 (E 7) (V 7) k, selF sides104 v1 (E 0) (V 0) k, selF sides104 v1 (E 1) (V 1) k, selF sides104 v1 (E 2) (V 2) k, selF sides104 v1 (E 3) (V 3) k, selF sides104 v1 (E 4) (V 4) k, selF sides104 v1 (E 5) (V 5) k, selF sides104 v1 (E 6) (V 6) k, selF sides104 v1 (E 7) (V 7) k)

/-- The collected rows while the selection over all of them runs: scores after `k` rounds, positions as they were. -/
abbrev selPts (c : Dev nD) (E : Fin 8 → IVec S104x128 32) (V : Fin 8 → FVec F S104x128 .f32) (k : ℕ) : sProp 𝕄 :=
  iprop(pt c (Memref.whole cc0_scratch8) (selEv sides104 (E 0) (V 0) k) ∗ pt c (Memref.whole cc0_scratch9) (selEv sides104 (E 1) (V 1) k) ∗ pt c (Memref.whole cc0_scratch10) (selEv sides104 (E 2) (V 2) k) ∗ pt c (Memref.whole cc0_scratch11) (selEv sides104 (E 3) (V 3) k) ∗ pt c (Memref.whole cc0_scratch12) (selEv sides104 (E 4) (V 4) k) ∗ pt c (Memref.whole cc0_scratch13) (selEv sides104 (E 5) (V 5) k) ∗ pt c (Memref.whole cc0_scratch14) (selEv sides104 (E 6) (V 6) k) ∗ pt c (Memref.whole cc0_scratch15) (selEv sides104 (E 7) (V 7) k) ∗ pt c (Memref.whole cc0_scratch16) (E 0) ∗ pt c (Memref.whole cc0_scratch17) (E 1) ∗ pt c (Memref.whole cc0_scratch18) (E 2) ∗ pt c (Memref.whole cc0_scratch19) (E 3) ∗ pt c (Memref.whole cc0_scratch20) (E 4) ∗ pt c (Memref.whole cc0_scratch21) (E 5) ∗ pt c (Memref.whole cc0_scratch22) (E 6) ∗ pt c (Memref.whole cc0_scratch23) (E 7))

section Loops

variable (c : Dev nD)
  (arg0 : Memref sig .tc .vmem S640x128 .f32) (harg0 : arg0.IsWhole)
  (arg1 : Memref sig .tc .vmem S640x128 .f32) (harg1 : arg1.IsWhole)
  (arg2 : Memref sig .tc .vmem S640x128 .f32) (harg2 : arg2.IsWhole)
  (arg3 : Memref sig .tc .vmem S640x128 .f32) (harg3 : arg3.IsWhole)
  (arg4 : Memref sig .tc .vmem S640x128 .f32) (harg4 : arg4.IsWhole)
  (arg5 : Memref sig .tc .vmem S640x128 .f32) (harg5 : arg5.IsWhole)
  (arg6 : Memref sig .tc .vmem S640x128 .f32) (harg6 : arg6.IsWhole)
  (arg7 : Memref sig .tc .vmem S640x128 .f32) (harg7 : arg7.IsWhole)
  (arg8 : Memref sig .tc .vmem S8x1024x4 .f32) (harg8 : arg8.IsWhole)
  (arg9 : Memref sig .tc .vmem S8x4 .f32) (harg9 : arg9.IsWhole)
  (arg10 : Memref sig .tc .vmem S8x128 .f32) (harg10 : arg10.IsWhole)
  (arg11 : Memref sig .tc .vmem S8x128 .i32) (harg11 : arg11.IsWhole)
  (arg12 : Memref sig .tc .vmem S8x128x4 .f32) (harg12 : arg12.IsWhole)

set_option maxHeartbeats 4000000 in
set_option warn.classDefReducibility false in
/-- The selection over eight rows: its invariant and its round. -/
def T2 (v1 : IVec S1x128 32) (v108 : FVec F S1x128 .f32) (v109 : FVec F S1x128 .f32) (v110 : FVec F S1x128 .f32) (v111 : FVec F S1x128 .f32) (v112 : FVec F S1x128 .f32) (v113 : FVec F S1x128 .f32) (v114 : FVec F S1x128 .f32) (v115 : FVec F S1x128 .f32) (v116 : IVec S1x128 32) (v117 : IVec S1x128 32) (v118 : IVec S1x128 32) (v119 : IVec S1x128 32) (v120 : IVec S1x128 32) (v121 : IVec S1x128 32) (v122 : IVec S1x128 32) (v123 : IVec S1x128 32) (E : Fin 8 → IVec S8x128 32) (V : Fin 8 → FVec F S8x128 .f32) (init : _) :
    LoopInvTy_k0_t2 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) v1 v108 v109 v110 v111 v112 v113 v114 v115 v116 v117 v118 v119 v120 v121 v122 v123 (E 0) (E 1) (E 2) (E 3) (E 4) (E 5) (E 6) (E 7) init where
  inv k acc := iprop(⌜acc = carry8 v1 E V k⌝)
  step k acc := by
    iintro %h
    subst h
    sl_unfold [k0_t2_body]
    sl_exec
    sl_step
    ipureintro
    simp only [Prod.mk.injEq]
    exact ⟨rfl, rfl, rfl, rfl, rfl, rfl, rfl, rfl, selS_iv sides8 v1 (E 0) (V 0) k, selS_iv sides8 v1 (E 1) (V 1) k, selS_iv sides8 v1 (E 2) (V 2) k, selS_iv sides8 v1 (E 3) (V 3) k, selS_iv sides8 v1 (E 4) (V 4) k, selS_iv sides8 v1 (E 5) (V 5) k, selS_iv sides8 v1 (E 6) (V 6) k, selS_iv sides8 v1 (E 7) (V 7) k, selF_iv sides8 v1 (E 0) (V 0) k, selF_iv sides8 v1 (E 1) (V 1) k, selF_iv sides8 v1 (E 2) (V 2) k, selF_iv sides8 v1 (E 3) (V 3) k, selF_iv sides8 v1 (E 4) (V 4) k, selF_iv sides8 v1 (E 5) (V 5) k, selF_iv sides8 v1 (E 6) (V 6) k, selF_iv sides8 v1 (E 7) (V 7) k⟩

set_option maxHeartbeats 4000000 in
set_option warn.classDefReducibility false in
/-- The selection over all the rows: its invariant and its round. -/
def T3 (v1 : IVec S1x128 32) (v108 : FVec F S1x128 .f32) (v109 : FVec F S1x128 .f32) (v110 : FVec F S1x128 .f32) (v111 : FVec F S1x128 .f32) (v112 : FVec F S1x128 .f32) (v113 : FVec F S1x128 .f32) (v114 : FVec F S1x128 .f32) (v115 : FVec F S1x128 .f32) (v116 : IVec S1x128 32) (v117 : IVec S1x128 32) (v118 : IVec S1x128 32) (v119 : IVec S1x128 32) (v120 : IVec S1x128 32) (v121 : IVec S1x128 32) (v122 : IVec S1x128 32) (v123 : IVec S1x128 32) (E : Fin 8 → IVec S104x128 32) (V : Fin 8 → FVec F S104x128 .f32) :
    LoopInvTy_k0_t3 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) v1 v108 v109 v110 v111 v112 v113 v114 v115 v116 v117 v118 v119 v120 v121 v122 v123 (v108, v109, v110, v111, v112, v113, v114, v115, v116, v117, v118, v119, v120, v121, v122, v123) where
  inv k acc := iprop(⌜acc = carry104 v1 E V k⌝ ∗ selPts c E V k)
  step k acc := by
    iintro ⟨%h, H8, H9, H10, H11, H12, H13, H14, H15, H16, H17, H18, H19, H20, H21, H22, H23⟩
    subst h
    sl_unfold [k0_t3_body]
    sl_exec
    sl_step
    have x0 := rd (F := F) cc0_scratch8 z2 inb_S104x128_S104x128_0_0 (selEv sides104 (E 0) (V 0) k.val)
    have e0 := rd (F := F) cc0_scratch16 z2 inb_S104x128_S104x128_0_0 (E 0)
    have x1 := rd (F := F) cc0_scratch9 z2 inb_S104x128_S104x128_0_0 (selEv sides104 (E 1) (V 1) k.val)
    have e1 := rd (F := F) cc0_scratch17 z2 inb_S104x128_S104x128_0_0 (E 1)
    have x2 := rd (F := F) cc0_scratch10 z2 inb_S104x128_S104x128_0_0 (selEv sides104 (E 2) (V 2) k.val)
    have e2 := rd (F := F) cc0_scratch18 z2 inb_S104x128_S104x128_0_0 (E 2)
    have x3 := rd (F := F) cc0_scratch11 z2 inb_S104x128_S104x128_0_0 (selEv sides104 (E 3) (V 3) k.val)
    have e3 := rd (F := F) cc0_scratch19 z2 inb_S104x128_S104x128_0_0 (E 3)
    have x4 := rd (F := F) cc0_scratch12 z2 inb_S104x128_S104x128_0_0 (selEv sides104 (E 4) (V 4) k.val)
    have e4 := rd (F := F) cc0_scratch20 z2 inb_S104x128_S104x128_0_0 (E 4)
    have x5 := rd (F := F) cc0_scratch13 z2 inb_S104x128_S104x128_0_0 (selEv sides104 (E 5) (V 5) k.val)
    have e5 := rd (F := F) cc0_scratch21 z2 inb_S104x128_S104x128_0_0 (E 5)
    have x6 := rd (F := F) cc0_scratch14 z2 inb_S104x128_S104x128_0_0 (selEv sides104 (E 6) (V 6) k.val)
    have e6 := rd (F := F) cc0_scratch22 z2 inb_S104x128_S104x128_0_0 (E 6)
    have x7 := rd (F := F) cc0_scratch15 z2 inb_S104x128_S104x128_0_0 (selEv sides104 (E 7) (V 7) k.val)
    have e7 := rd (F := F) cc0_scratch23 z2 inb_S104x128_S104x128_0_0 (E 7)
    isplitr
    · ipureintro
      simp only [Prod.mk.injEq]
      refine ⟨?_, ?_, ?_, ?_, ?_, ?_, ?_, ?_, ?_, ?_, ?_, ?_, ?_, ?_, ?_, ?_⟩
      · exact (congrArg (fun x => setLane v1 (Scf.iv 0#32 1#32 k.val) (selMax sides104 x) (selS sides104 v1 (E 0) (V 0) k)) x0).trans (selS_iv sides104 v1 (E 0) (V 0) k)
      · exact (congrArg (fun x => setLane v1 (Scf.iv 0#32 1#32 k.val) (selMax sides104 x) (selS sides104 v1 (E 1) (V 1) k)) x1).trans (selS_iv sides104 v1 (E 1) (V 1) k)
      · exact (congrArg (fun x => setLane v1 (Scf.iv 0#32 1#32 k.val) (selMax sides104 x) (selS sides104 v1 (E 2) (V 2) k)) x2).trans (selS_iv sides104 v1 (E 2) (V 2) k)
      · exact (congrArg (fun x => setLane v1 (Scf.iv 0#32 1#32 k.val) (selMax sides104 x) (selS sides104 v1 (E 3) (V 3) k)) x3).trans (selS_iv sides104 v1 (E 3) (V 3) k)
      · exact (congrArg (fun x => setLane v1 (Scf.iv 0#32 1#32 k.val) (selMax sides104 x) (selS sides104 v1 (E 4) (V 4) k)) x4).trans (selS_iv sides104 v1 (E 4) (V 4) k)
      · exact (congrArg (fun x => setLane v1 (Scf.iv 0#32 1#32 k.val) (selMax sides104 x) (selS sides104 v1 (E 5) (V 5) k)) x5).trans (selS_iv sides104 v1 (E 5) (V 5) k)
      · exact (congrArg (fun x => setLane v1 (Scf.iv 0#32 1#32 k.val) (selMax sides104 x) (selS sides104 v1 (E 6) (V 6) k)) x6).trans (selS_iv sides104 v1 (E 6) (V 6) k)
      · exact (congrArg (fun x => setLane v1 (Scf.iv 0#32 1#32 k.val) (selMax sides104 x) (selS sides104 v1 (E 7) (V 7) k)) x7).trans (selS_iv sides104 v1 (E 7) (V 7) k)
      · exact (congr (congrArg (fun x e => setLane v1 (Scf.iv 0#32 1#32 k.val) (selPos sides104 e x) (selF sides104 v1 (E 0) (V 0) k)) x0) e0).trans (selF_iv sides104 v1 (E 0) (V 0) k)
      · exact (congr (congrArg (fun x e => setLane v1 (Scf.iv 0#32 1#32 k.val) (selPos sides104 e x) (selF sides104 v1 (E 1) (V 1) k)) x1) e1).trans (selF_iv sides104 v1 (E 1) (V 1) k)
      · exact (congr (congrArg (fun x e => setLane v1 (Scf.iv 0#32 1#32 k.val) (selPos sides104 e x) (selF sides104 v1 (E 2) (V 2) k)) x2) e2).trans (selF_iv sides104 v1 (E 2) (V 2) k)
      · exact (congr (congrArg (fun x e => setLane v1 (Scf.iv 0#32 1#32 k.val) (selPos sides104 e x) (selF sides104 v1 (E 3) (V 3) k)) x3) e3).trans (selF_iv sides104 v1 (E 3) (V 3) k)
      · exact (congr (congrArg (fun x e => setLane v1 (Scf.iv 0#32 1#32 k.val) (selPos sides104 e x) (selF sides104 v1 (E 4) (V 4) k)) x4) e4).trans (selF_iv sides104 v1 (E 4) (V 4) k)
      · exact (congr (congrArg (fun x e => setLane v1 (Scf.iv 0#32 1#32 k.val) (selPos sides104 e x) (selF sides104 v1 (E 5) (V 5) k)) x5) e5).trans (selF_iv sides104 v1 (E 5) (V 5) k)
      · exact (congr (congrArg (fun x e => setLane v1 (Scf.iv 0#32 1#32 k.val) (selPos sides104 e x) (selF sides104 v1 (E 6) (V 6) k)) x6) e6).trans (selF_iv sides104 v1 (E 6) (V 6) k)
      · exact (congr (congrArg (fun x e => setLane v1 (Scf.iv 0#32 1#32 k.val) (selPos sides104 e x) (selF sides104 v1 (E 7) (V 7) k)) x7) e7).trans (selF_iv sides104 v1 (E 7) (V 7) k)
    isplitl [H8]
    · iapply (pt_eq c) $$ H8
      ipureintro
      exact (wr cc0_scratch8 z2 _ _ _).trans ((congr (congrArg (fun x e => shapeCast S104x128 (selNext sides104 e x) shapeCasts_S104x128_S104x128) x0) e0).trans (shapeCast_id _ _))
    isplitl [H9]
    · iapply (pt_eq c) $$ H9
      ipureintro
      exact (wr cc0_scratch9 z2 _ _ _).trans ((congr (congrArg (fun x e => shapeCast S104x128 (selNext sides104 e x) shapeCasts_S104x128_S104x128) x1) e1).trans (shapeCast_id _ _))
    isplitl [H10]
    · iapply (pt_eq c) $$ H10
      ipureintro
      exact (wr cc0_scratch10 z2 _ _ _).trans ((congr (congrArg (fun x e => shapeCast S104x128 (selNext sides104 e x) shapeCasts_S104x128_S104x128) x2) e2).trans (shapeCast_id _ _))
    isplitl [H11]
    · iapply (pt_eq c) $$ H11
      ipureintro
      exact (wr cc0_scratch11 z2 _ _ _).trans ((congr (congrArg (fun x e => shapeCast S104x128 (selNext sides104 e x) shapeCasts_S104x128_S104x128) x3) e3).trans (shapeCast_id _ _))
    isplitl [H12]
    · iapply (pt_eq c) $$ H12
      ipureintro
      exact (wr cc0_scratch12 z2 _ _ _).trans ((congr (congrArg (fun x e => shapeCast S104x128 (selNext sides104 e x) shapeCasts_S104x128_S104x128) x4) e4).trans (shapeCast_id _ _))
    isplitl [H13]
    · iapply (pt_eq c) $$ H13
      ipureintro
      exact (wr cc0_scratch13 z2 _ _ _).trans ((congr (congrArg (fun x e => shapeCast S104x128 (selNext sides104 e x) shapeCasts_S104x128_S104x128) x5) e5).trans (shapeCast_id _ _))
    isplitl [H14]
    · iapply (pt_eq c) $$ H14
      ipureintro
      exact (wr cc0_scratch14 z2 _ _ _).trans ((congr (congrArg (fun x e => shapeCast S104x128 (selNext sides104 e x) shapeCasts_S104x128_S104x128) x6) e6).trans (shapeCast_id _ _))
    isplitl [H15]
    · iapply (pt_eq c) $$ H15
      ipureintro
      exact (wr cc0_scratch15 z2 _ _ _).trans ((congr (congrArg (fun x e => shapeCast S104x128 (selNext sides104 e x) shapeCasts_S104x128_S104x128) x7) e7).trans (shapeCast_id _ _))
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

end Loops

end Cert.KernelIdeal.Val
-- ==== Proof.ValRows.lean ====
/-
  The result windows, row by row: a row load after a list of row stores, the list the kernel makes of one result window
  (a row for each batch element, then each row replaced by a function of itself), and the boxes' rows.
-/
module

public import proofs.«01_k».proof.Proof.ValSelect
public import Idealize.ShloMosaic.Lib.VecWindow

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

section Rows

variable {e : EltTy}

/-- A row of an eight-row window lies inside it. -/
theorem row_inb (b : Fin 8) : ∀ a : Fin 2, (![b.val, 0] : Fin 2 → ℕ) a + S1x128.size a ≤ S8x128.size a
  | ⟨0, _⟩ => by have := b.isLt; show b.val + 1 ≤ 8; omega
  | ⟨1, _⟩ => by show 0 + 128 ≤ 128; omega

/-- Row `b` of a result window. -/
abbrev rowRect (b : Fin 8) : Rect S8x128 := Rect.unit (s := S8x128) ![b.val, 0] S1x128.size (row_inb b)

/-- A store of row `b`. -/
abbrev rowPiece (b : Fin 8) (w : S1x128.Idx → Elt F e) : View.Piece (Elt F) S8x128 e := ⟨rowRect b, w⟩

/-- A window with one row stored, read at that row and at the others. -/
theorem read_row (v : View sig .tc .vmem S8x128 e) (f : v.ty.Contents (Elt F)) (b r : Fin 8) (w : S1x128.Idx → Elt F e)
    (L : List (View.Piece (Elt F) S8x128 e)) (x : Fin 128) :
    v.read (Elt F) (v.writes (Elt F) f (rowPiece r w :: L)) (ix2 b x)
      = if b = r then w (ix2 (0 : Fin 1) x) else v.read (Elt F) (v.writes (Elt F) f L) (ix2 b x) := by
  by_cases h : b = r
  · subst h
    rw [if_pos rfl]
    exact View.read_writes_cons_unit_of_mem v f (row_inb b) w L _ (ix2 (0 : Fin 1) x) rfl fun a => by
      match a with
      | ⟨0, _⟩ => rfl
      | ⟨1, _⟩ => exact (Nat.zero_add _).symm
  · rw [if_neg h]
    refine View.read_writes_cons_unit_of_not_mem v f (row_inb r) w L _ rfl (0 : Fin 2) ?_
    have h' : b.val ≠ r.val := fun h' => h (Fin.ext h')
    show b.val < r.val ∨ r.val + 1 ≤ b.val
    omega

/-- A load of row `b` reads that row. -/
theorem load_row (v : View sig .tc .vmem S8x128 e) (f : v.ty.Contents (Elt F)) (b : Fin 8) :
    v.readAt (Elt F) (rowRect b).toLoadRect f = fun j : S1x128.Idx => v.read (Elt F) f (ix2 b (j 1)) := by
  funext j
  refine congrArg (v.read (Elt F) f) (funext fun a => Fin.ext ?_)
  match a with
  | ⟨0, _⟩ => show b.val + 1 * (j 0).val = b.val; have : (j 0).val < 1 := (j 0).isLt; omega
  | ⟨1, _⟩ => show 0 + 1 * (j 1).val = (j 1).val; omega

/-- The stores of the selected rows, the last one first. -/
def selList (s : Fin 8 → S1x128.Idx → Elt F e) : List (Fin 8) → List (View.Piece (Elt F) S8x128 e)
  | [] => []
  | b :: bs => rowPiece b (s b) :: selList s bs

/-- The rows in the order of their stores, the last one first. -/
abbrev allRows : List (Fin 8) := [7, 6, 5, 4, 3, 2, 1, 0]

/-- The stores that follow, each row replaced by `g` of what it holds. -/
def finList (v : View sig .tc .vmem S8x128 e) (g : (S1x128.Idx → Elt F e) → S1x128.Idx → Elt F e) (s : Fin 8 → S1x128.Idx → Elt F e) :
    List (Fin 8) → List (View.Piece (Elt F) S8x128 e)
  | [] => selList s allRows
  | b :: bs => rowPiece b (g (v.readCov (finList v g s bs) (rowRect b).toLoadRect)) :: finList v g s bs

/-- A window after a list of rows is stored, read at one of those rows. -/
theorem read_selList (v : View sig .tc .vmem S8x128 e) (f : v.ty.Contents (Elt F)) (s : Fin 8 → S1x128.Idx → Elt F e) (x : Fin 128) (b : Fin 8) :
    ∀ l : List (Fin 8), b ∈ l → v.read (Elt F) (v.writes (Elt F) f (selList s l)) (ix2 b x) = s b (ix2 (0 : Fin 1) x)
  | [], h => absurd h List.not_mem_nil
  | r :: rs, h => by
    rw [selList, read_row]
    by_cases hr : b = r
    · rw [if_pos hr, hr]
    · rw [if_neg hr]
      exact read_selList v f s x b rs ((List.mem_cons.mp h).resolve_left hr)

/-- Every row is among the eight. -/
theorem mem_allRows : ∀ b : Fin 8, b ∈ allRows := by decide

/-- A row is given by its lanes. -/
theorem ix2_row (w : S1x128.Idx → Elt F e) : (fun j : S1x128.Idx => w (ix2 (0 : Fin 1) (j 1))) = w := by
  funext j
  refine congrArg w (funext fun a => ?_)
  match a with
  | ⟨0, _⟩ => exact Fin.ext (by have : (j 0).val < 1 := (j 0).isLt; show 0 = (j 0).val; omega)
  | ⟨1, _⟩ => rfl

/-- What those stores leave: a row stored once is `g` of the selected row, a row not yet stored the selected row. -/
theorem read_finList (v : View sig .tc .vmem S8x128 e) (f : v.ty.Contents (Elt F)) (g : (S1x128.Idx → Elt F e) → S1x128.Idx → Elt F e)
    (s : Fin 8 → S1x128.Idx → Elt F e) (x : Fin 128) (b : Fin 8) :
    ∀ l : List (Fin 8), l.Nodup → v.read (Elt F) (v.writes (Elt F) f (finList v g s l)) (ix2 b x)
      = if b ∈ l then g (s b) (ix2 (0 : Fin 1) x) else s b (ix2 (0 : Fin 1) x)
  | [], _ => by rw [if_neg List.not_mem_nil]; exact read_selList v f s x b allRows (mem_allRows b)
  | r :: rs, h => by
    have hn := List.nodup_cons.mp h
    rw [finList, read_row]
    by_cases hr : b = r
    · subst hr
      rw [if_pos rfl, if_pos List.mem_cons_self]
      refine congrFun (congrArg g ?_) _
      refine (load_row v _ b).trans ?_
      refine Eq.trans (funext fun j => ?_) (ix2_row (s b))
      rw [read_finList v _ g s (j 1) b rs hn.2, if_neg hn.1]
    · rw [if_neg hr, read_finList v f g s x b rs hn.2]
      exact if_congr (by rw [List.mem_cons]; exact (or_iff_right hr).symm) rfl rfl

/-- The window after all of it. -/
theorem read_all (v : View sig .tc .vmem S8x128 e) (f : v.ty.Contents (Elt F)) (g : (S1x128.Idx → Elt F e) → S1x128.Idx → Elt F e)
    (s : Fin 8 → S1x128.Idx → Elt F e) :
    v.read (Elt F) (v.writes (Elt F) f (finList v g s allRows)) = fun i => g (s (i 0)) (ix2 (0 : Fin 1) (i 1)) := by
  funext i
  have hi : i = ix2 (i 0) (i 1) := funext fun a => by match a with | ⟨0, _⟩ => rfl | ⟨1, _⟩ => rfl
  exact (congrArg _ hi).trans ((read_finList v f g s (i 1) (i 0) allRows (by decide)).trans (if_pos (mem_allRows (i 0))))

/-- The rows stored before row `b`, the last one first. -/
def below : Fin 8 → List (Fin 8) := ![[], [0], [1, 0], [2, 1, 0], [3, 2, 1, 0], [4, 3, 2, 1, 0], [5, 4, 3, 2, 1, 0], [6, 5, 4, 3, 2, 1, 0]]

/-- The row loaded before it is stored is the selected one. -/
theorem cov_below (v : View sig .tc .vmem S8x128 e) (g : (S1x128.Idx → Elt F e) → S1x128.Idx → Elt F e) (s : Fin 8 → S1x128.Idx → Elt F e) (b : Fin 8) :
    v.readCov (finList v g s (below b)) (rowRect b).toLoadRect = s b := by
  refine (load_row v _ b).trans ?_
  refine Eq.trans (funext fun j => ?_) (ix2_row (s b))
  rw [read_finList v _ g s (j 1) b (below b) (by revert b; decide), if_neg (by revert b; decide)]

end Rows

section Boxes

/-- A plane of the box window lies inside it. -/
theorem row3_inb (b : Fin 8) : ∀ a : Fin 3, (![b.val, 0, 0] : Fin 3 → ℕ) a + S1x128x4.size a ≤ S8x128x4.size a
  | ⟨0, _⟩ => by have := b.isLt; show b.val + 1 ≤ 8; omega
  | ⟨1, _⟩ => by show 0 + 128 ≤ 128; omega
  | ⟨2, _⟩ => by show 0 + 4 ≤ 4; omega

/-- The stores of the boxes' rows. -/
def boxList (w : Fin 8 → S1x128x4.Idx → Elt F .f32) : List (Fin 8) → List (View.Piece (Elt F) S8x128x4 .f32)
  | [] => []
  | b :: bs => ⟨Rect.unit (s := S8x128x4) ![b.val, 0, 0] S1x128x4.size (row3_inb b), w b⟩ :: boxList w bs

/-- The box window after a list of planes is stored, read at one of those planes. -/
theorem read_boxList (v : View sig .tc .vmem S8x128x4 .f32) (f : v.ty.Contents (Elt F)) (w : Fin 8 → S1x128x4.Idx → Elt F .f32)
    (b : Fin 8) (x : Fin 128) (y : Fin 4) :
    ∀ l : List (Fin 8), b ∈ l → v.read (Elt F) (v.writes (Elt F) f (boxList w l)) (ix3 b x y) = w b (ix3 (0 : Fin 1) x y)
  | [], h => absurd h List.not_mem_nil
  | r :: rs, h => by
    rw [boxList]
    by_cases hr : b = r
    · subst hr
      exact View.read_writes_cons_unit_of_mem v f (row3_inb b) (w b) _ _ (ix3 (0 : Fin 1) x y) rfl fun a => by
        match a with
        | ⟨0, _⟩ => rfl
        | ⟨1, _⟩ => exact (Nat.zero_add _).symm
        | ⟨2, _⟩ => exact (Nat.zero_add _).symm
    · refine (View.read_writes_cons_unit_of_not_mem v f (row3_inb r) (w r) _ _ rfl (0 : Fin 3) ?_).trans
        (read_boxList v f w b x y rs ((List.mem_cons.mp h).resolve_left hr))
      have h' : b.val ≠ r.val := fun h' => hr (Fin.ext h')
      show b.val < r.val ∨ r.val + 1 ≤ b.val
      omega

/-- All eight planes at once. -/
theorem read_boxes (v : View sig .tc .vmem S8x128x4 .f32) (f : v.ty.Contents (Elt F)) (w : Fin 8 → S1x128x4.Idx → Elt F .f32) :
    v.read (Elt F) (v.writes (Elt F) f (boxList w allRows)) = fun i => w (i 0) (ix3 (0 : Fin 1) (i 1) (i 2)) := by
  funext i
  have hi : i = ix3 (i 0) (i 1) (i 2) := funext fun a => by match a with | ⟨0, _⟩ => rfl | ⟨1, _⟩ => rfl | ⟨2, _⟩ => rfl
  exact (congrArg _ hi).trans (read_boxList v f w (i 0) (i 1) (i 2) allRows (mem_allRows (i 0)))

/-- A plane of the box table lies inside it, -/
theorem box_inb (b : Fin 8) : ∀ a : Fin 3, (![b.val, 0, 0] : Fin 3 → ℕ) a + S1x1024x4.size a ≤ S8x1024x4.size a
  | ⟨0, _⟩ => by have := b.isLt; show b.val + 1 ≤ 8; omega
  | ⟨1, _⟩ => by show 0 + 1024 ≤ 1024; omega
  | ⟨2, _⟩ => by show 0 + 4 ≤ 4; omega

/-- and a row of the scale table. -/
theorem scale_inb (b : Fin 8) : ∀ a : Fin 2, (![b.val, 0] : Fin 2 → ℕ) a + S1x4.size a ≤ S8x4.size a
  | ⟨0, _⟩ => by have := b.isLt; show b.val + 1 ≤ 8; omega
  | ⟨1, _⟩ => by show 0 + 4 ≤ 4; omega

/-- Batch element `b`'s box table. -/
def boxTable (x8 : Vec F S8x1024x4 .f32) (b : Fin 8) : Vec F S1x1024x4 .f32 := fun i => x8 (ix3 b (i 1) (i 2))
/-- Batch element `b`'s scales. -/
def scaleRow (x9 : Vec F S8x4 .f32) (b : Fin 8) : Vec F S1x4 .f32 := fun i => x9 (ix2 b (i 1))

/-- Loading a plane of the box table, -/
theorem load_box (v : View sig .tc .vmem S8x1024x4 .f32) (f : v.ty.Contents (Elt F)) (b : Fin 8) :
    v.readAt (Elt F) (Rect.unit (s := S8x1024x4) ![b.val, 0, 0] S1x1024x4.size (box_inb b)).toLoadRect f = boxTable (v.read (Elt F) f) b := by
  funext j
  refine congrArg (v.read (Elt F) f) (funext fun a => Fin.ext ?_)
  match a with
  | ⟨0, _⟩ => show b.val + 1 * (j 0).val = b.val; have : (j 0).val < 1 := (j 0).isLt; omega
  | ⟨1, _⟩ => show 0 + 1 * (j 1).val = (j 1).val; omega
  | ⟨2, _⟩ => show 0 + 1 * (j 2).val = (j 2).val; omega

/-- and a row of the scale table. -/
theorem load_scale (v : View sig .tc .vmem S8x4 .f32) (f : v.ty.Contents (Elt F)) (b : Fin 8) :
    v.readAt (Elt F) (Rect.unit (s := S8x4) ![b.val, 0] S1x4.size (scale_inb b)).toLoadRect f = scaleRow (v.read (Elt F) f) b := by
  funext j
  refine congrArg (v.read (Elt F) f) (funext fun a => Fin.ext ?_)
  match a with
  | ⟨0, _⟩ => show b.val + 1 * (j 0).val = b.val; have : (j 0).val < 1 := (j 0).isLt; omega
  | ⟨1, _⟩ => show 0 + 1 * (j 1).val = (j 1).val; omega

end Boxes

end Cert.KernelIdeal.Val
end
-- ==== Proof.ValOut.lean ====
/-
  What the idealized kernel's body leaves in the three result windows, as functions of the windows it reads, and the
  states before and after its loops.
-/
module

public import proofs.«01_k».proof.Proof.ValRows

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- The twenty-five scratch buffers, each held whole at some contents. -/
abbrev scr (c : Dev nD) : sProp 𝕄 :=
  iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ (∃ f, pt c (Memref.whole cc0_scratch16) f) ∗ (∃ f, pt c (Memref.whole cc0_scratch17) f) ∗ (∃ f, pt c (Memref.whole cc0_scratch18) f) ∗ (∃ f, pt c (Memref.whole cc0_scratch19) f) ∗ (∃ f, pt c (Memref.whole cc0_scratch20) f) ∗ (∃ f, pt c (Memref.whole cc0_scratch21) f) ∗ (∃ f, pt c (Memref.whole cc0_scratch22) f) ∗ (∃ f, pt c (Memref.whole cc0_scratch23) f) ∗ (∃ f, pt c (Memref.whole cc0_scratch24) f))

/-- The row numbers of a 640 by 128 array. -/
abbrev rows640 : IVec S640x128 32 := iota .tc S640x128 32 [0] iota_S640x128_d0_w32
/-- The lane numbers of a row. -/
abbrev lanes : IVec S1x128 32 := iota .tc S1x128 32 [1] iota_S1x128_d1_w32
/-- The row numbers of the box table. -/
abbrev rows1024 : IVec S1024x1 32 := iota .tc S1024x1 32 [0] iota_S1024x1_d0_w32

/-- The first eight collected rows, as a load of them reads. -/
def first8 {α : Type} (a : S104x128.Idx → α) : S8x128.Idx → α :=
  fun y => a ((Rect.unit (s := S104x128) ![0, 0] S8x128.size inb_S104x128_S8x128_0_0).toLoadRect.idx y)

/-- The turns of the three loops. -/
abbrev turns1 : ℕ := Scf.trips k0_t1_loop.lb k0_t1_loop.ub k0_t1_loop.st
abbrev turns2 : ℕ := Scf.trips k0_t2_loop.lb k0_t2_loop.ub k0_t2_loop.st
abbrev turns3 : ℕ := Scf.trips k0_t3_loop.lb k0_t3_loop.ub k0_t3_loop.st

/-- Each loop has 100 turns. -/
theorem turns1_eq : turns1 = 100 := by decide
theorem turns2_eq : turns2 = 100 := by decide
theorem turns3_eq : turns3 = 100 := by decide

/-- How many trips `t` turns of the peeling take. -/
def tripsOf (X : Fin 8 → Vec F S640x128 .f32) (t : ℕ) : ℕ := (stop rows640 X t).1

/-- The count as the loop state holds it. -/
theorem tripsOf_eq (X : Fin 8 → Vec F S640x128 .f32) (t : ℕ) : (stop rows640 X t).1 = tripsOf X t := rfl

/-- How many trips the peeling takes. -/
def trips (X : Fin 8 → Vec F S640x128 .f32) : ℕ := tripsOf X turns1

/-- The selected scores of batch element `b`. -/
def bestS (X : Fin 8 → Vec F S640x128 .f32) (b : Fin 8) : FVec F S1x128 .f32 :=
  if trips X ≤ 8 then selS sides8 lanes (first8 (peelEi rows640 lanes (X b) (trips X))) (first8 (peelEv rows640 (X b) (trips X))) turns2
  else selS sides104 lanes (peelEi rows640 lanes (X b) (trips X)) (peelEv rows640 (X b) (trips X)) turns3

/-- The selected flat positions of batch element `b`. -/
def bestF (X : Fin 8 → Vec F S640x128 .f32) (b : Fin 8) : IVec S1x128 32 :=
  if trips X ≤ 8 then selF sides8 lanes (first8 (peelEi rows640 lanes (X b) (trips X))) (first8 (peelEv rows640 (X b) (trips X))) turns2
  else selF sides104 lanes (peelEi rows640 lanes (X b) (trips X)) (peelEv rows640 (X b) (trips X)) turns3

/-- The scores the body leaves. -/
def out10 (X : Fin 8 → Vec F S640x128 .f32) : Vec F S8x128 .f32 := fun i => k0_pay222 (bestS X (i 0)) (ix2 (0 : Fin 1) (i 1))
/-- The labels the body leaves. -/
def out11 (X : Fin 8 → Vec F S640x128 .f32) : Vec F S8x128 .i32 := fun i => k0_pay224 (F := F) (bestF X (i 0)) (ix2 (0 : Fin 1) (i 1))
/-- The boxes the body leaves. -/
def out12 (X : Fin 8 → Vec F S640x128 .f32) (x8 : Vec F S8x1024x4 .f32) (x9 : Vec F S8x4 .f32) : Vec F S8x128x4 .f32 := fun i =>
  k0_pay225 rows1024 (k0_pay223 (F := F) (bestF X (i 0))) (boxTable x8 (i 0)) (scaleRow x9 (i 0)) (ix3 (0 : Fin 1) (i 1) (i 2))

/-- What is held before turn `k` of the peeling loop. -/
abbrev inv1 (c : Dev nD) (X : Fin 8 → Vec F S640x128 .f32) (k : ℕ) : sProp 𝕄 :=
  iprop(∃ d, ⌜Counts rows640 X k d⌝ ∗ pt c (Memref.whole cc0_scratch24) d ∗ peelPts c rows640 lanes X (stop rows640 X k).1)

/-- There is at most one trip a turn, -/
theorem stop_le (v0 : IVec S640x128 32) (X : Fin 8 → Vec F S640x128 .f32) : ∀ t, (stop v0 X t).1 ≤ t
  | 0 => le_rfl
  | t + 1 => by
    by_cases h : (stop v0 X t).2 = 0#32
    · rw [stop_succ_of_zero v0 X t h]
    · rw [stop_succ_of_ne v0 X t h]
      exact (stop_le v0 X t).trans (Nat.le_succ t)

/-- so never more trips than turns, -/
theorem tripsOf_le (X : Fin 8 → Vec F S640x128 .f32) (t : ℕ) : tripsOf X t ≤ t := stop_le rows640 X t

/-- and at most 100. -/
theorem trips_le (X : Fin 8 → Vec F S640x128 .f32) : trips X ≤ 100 := le_trans (tripsOf_le X turns1) turns1_eq.le

/-- The two guards of the selection, on the word of the trip count. -/
theorem small_iff : ∀ n : Fin 101, Iff (Scalar.cmpi .ne (Scalar.extui (Scalar.cmpi .sle (BitVec.ofNat 32 n.val) 8#32) : BitVec 32) 0#32 = 1#1) (n.val ≤ 8) := by decide

/-- The test the program makes of the count: more than eight trips. -/
theorem big_iff : ∀ n : Fin 101, Iff (Scalar.cmpi .ne (Scalar.extui (Scalar.cmpi .sgt (BitVec.ofNat 32 n.val) 8#32) : BitVec 32) 0#32 = 1#1) (8 < n.val) := by decide

/-- The selected rows when the trips are at most eight. -/
theorem best_small (X : Fin 8 → Vec F S640x128 .f32) (n : ℕ) (hn : n = trips X) (h : n ≤ 8) (V : Fin 8 → Vec F S104x128 .f32) (E : Fin 8 → Vec F S104x128 .i32)
    (hV : V = fun b => peelEv rows640 (X b) (trips X)) (hE : E = fun b => peelEi rows640 lanes (X b) (trips X)) (N : ℕ) (hN : turns2 = N) :
    (∀ b, bestS X b = selS sides8 lanes (first8 (E b)) (first8 (V b)) N) ∧ (∀ b, bestF X b = selF sides8 lanes (first8 (E b)) (first8 (V b)) N) := by
  rw [hn] at h
  rw [hV, hE, ← hN]
  unfold bestS bestF
  generalize trips X = t at h
  exact ⟨fun b => if_pos h, fun b => if_pos h⟩

/-- The selected rows when the trips are more. -/
theorem best_big (X : Fin 8 → Vec F S640x128 .f32) (n : ℕ) (hn : n = trips X) (h : ¬ n ≤ 8) (V : Fin 8 → Vec F S104x128 .f32) (E : Fin 8 → Vec F S104x128 .i32)
    (hV : V = fun b => peelEv rows640 (X b) (trips X)) (hE : E = fun b => peelEi rows640 lanes (X b) (trips X)) (N : ℕ) (hN : turns3 = N) :
    (∀ b, bestS X b = selS sides104 lanes (E b) (V b) N) ∧ (∀ b, bestF X b = selF sides104 lanes (E b) (V b) N) := by
  rw [hn] at h
  rw [hV, hE, ← hN]
  unfold bestS bestF
  generalize trips X = t at h
  exact ⟨fun b => if_neg h, fun b => if_neg h⟩

/-- The box row the body stores for batch element `b`, from the loads it makes. -/
abbrev boxStored (v11 : View sig .tc .vmem S8x128 .i32) (v8 : View sig .tc .vmem S8x1024x4 .f32) (v9 : View sig .tc .vmem S8x4 .f32)
    (g8 : v8.ty.Contents (Elt F)) (g9 : v9.ty.Contents (Elt F)) (s : Fin 8 → S1x128.Idx → Elt F .i32) (b : Fin 8) : FVec F S1x128x4 .f32 :=
  k0_pay225 rows1024 (k0_pay223 (F := F) (v11.readCov (finList v11 (k0_pay224 (F := F)) s (below b)) (rowRect b).toLoadRect))
    (v8.readAt (Elt F) (Rect.unit (s := S8x1024x4) ![b.val, 0, 0] S1x1024x4.size (box_inb b)).toLoadRect g8)
    (v9.readAt (Elt F) (Rect.unit (s := S8x4) ![b.val, 0] S1x4.size (scale_inb b)).toLoadRect g9)

/-- The stored boxes are those of the selected positions. -/
theorem boxStored_eq (v11 : View sig .tc .vmem S8x128 .i32) (v8 : View sig .tc .vmem S8x1024x4 .f32) (v9 : View sig .tc .vmem S8x4 .f32)
    (g8 : v8.ty.Contents (Elt F)) (g9 : v9.ty.Contents (Elt F)) (s : Fin 8 → S1x128.Idx → Elt F .i32) (b : Fin 8) :
    boxStored v11 v8 v9 g8 g9 s b = k0_pay225 rows1024 (k0_pay223 (F := F) (s b)) (boxTable (v8.read (Elt F) g8) b) (scaleRow (v9.read (Elt F) g9) b) := by
  unfold boxStored
  rw [cov_below, load_box, load_scale]

/-- The three result windows, from the selected rows. -/
theorem out10_of (v : View sig .tc .vmem S8x128 .f32) (f : v.ty.Contents (Elt F)) (X : Fin 8 → Vec F S640x128 .f32)
    (s : Fin 8 → S1x128.Idx → Elt F .f32) (h : ∀ b, bestS X b = s b) :
    v.read (Elt F) (v.writes (Elt F) f (finList v (k0_pay222 (F := F)) s allRows)) = out10 X :=
  (read_all v f _ s).trans (funext fun i => congrFun (congrArg _ (h (i 0)).symm) _)

/-- What the label window holds, from its rows, -/
theorem out11_of (v : View sig .tc .vmem S8x128 .i32) (f : v.ty.Contents (Elt F)) (X : Fin 8 → Vec F S640x128 .f32)
    (s : Fin 8 → S1x128.Idx → Elt F .i32) (h : ∀ b, bestF X b = s b) :
    v.read (Elt F) (v.writes (Elt F) f (finList v (k0_pay224 (F := F)) s allRows)) = out11 X :=
  (read_all v f _ s).trans (funext fun i => congrFun (congrArg _ (h (i 0)).symm) _)

/-- and the box window. -/
theorem out12_of (v11 : View sig .tc .vmem S8x128 .i32) (v8 : View sig .tc .vmem S8x1024x4 .f32) (v9 : View sig .tc .vmem S8x4 .f32)
    (v : View sig .tc .vmem S8x128x4 .f32) (f : v.ty.Contents (Elt F)) (g8 : v8.ty.Contents (Elt F)) (g9 : v9.ty.Contents (Elt F))
    (X : Fin 8 → Vec F S640x128 .f32) (x8 : Vec F S8x1024x4 .f32) (x9 : Vec F S8x4 .f32) (h8 : v8.read (Elt F) g8 = x8) (h9 : v9.read (Elt F) g9 = x9)
    (s : Fin 8 → S1x128.Idx → Elt F .i32) (h : ∀ b, bestF X b = s b) :
    v.read (Elt F) (v.writes (Elt F) f (boxList (boxStored v11 v8 v9 g8 g9 s) allRows)) = out12 X x8 x9 :=
  (read_boxes v f _).trans (funext fun i => (congrFun (boxStored_eq v11 v8 v9 g8 g9 s (i 0)) _).trans (by
    have hs : s = bestF X := (funext h).symm
    subst hs h8 h9
    rfl))

/-- A score window copied through a cast that keeps the shape. -/
theorem start_copy (v : View sig .tc .vmem S640x128 .f32) (g : v.ty.Contents (Elt F)) (x : Vec F S640x128 .f32) (h : v.read (Elt F) g = x) :
    k0_pay167 (v.readAt (Elt F) (Rect.unit (s := S640x128) ![0, 0] S640x128.size inb_S640x128_S640x128_0_0).toLoadRect g) = x :=
  by
  unfold k0_pay167
  exact ((shapeCast_id _ _).trans (shapeCast_id _ _)).trans ((View.readAt_full v g inb_S640x128_S640x128_0_0).trans h)
/-- A constant array after such a cast. -/
theorem start_fill {α : Type} (a : α) : shapeCast S104x128 (broadcast S104x128 a) shapeCasts_S104x128_S104x128 = broadcast S104x128 a := shapeCast_id _ _

/-- Before the first turn: the score windows' copies, the padding value and zeros. -/
abbrev startPts (c : Dev nD) (X : Fin 8 → Vec F S640x128 .f32) : sProp 𝕄 :=
  iprop(pt c (Memref.whole cc0_scratch0) (X 0) ∗ pt c (Memref.whole cc0_scratch1) (X 1) ∗ pt c (Memref.whole cc0_scratch2) (X 2) ∗ pt c (Memref.whole cc0_scratch3) (X 3) ∗ pt c (Memref.whole cc0_scratch4) (X 4) ∗ pt c (Memref.whole cc0_scratch5) (X 5) ∗ pt c (Memref.whole cc0_scratch6) (X 6) ∗ pt c (Memref.whole cc0_scratch7) (X 7) ∗ pt c (Memref.whole cc0_scratch8) (broadcast S104x128 (neg (F := F))) ∗ pt c (Memref.whole cc0_scratch9) (broadcast S104x128 (neg (F := F))) ∗ pt c (Memref.whole cc0_scratch10) (broadcast S104x128 (neg (F := F))) ∗ pt c (Memref.whole cc0_scratch11) (broadcast S104x128 (neg (F := F))) ∗ pt c (Memref.whole cc0_scratch12) (broadcast S104x128 (neg (F := F))) ∗ pt c (Memref.whole cc0_scratch13) (broadcast S104x128 (neg (F := F))) ∗ pt c (Memref.whole cc0_scratch14) (broadcast S104x128 (neg (F := F))) ∗ pt c (Memref.whole cc0_scratch15) (broadcast S104x128 (neg (F := F))) ∗ pt c (Memref.whole cc0_scratch16) (broadcast S104x128 0#32) ∗ pt c (Memref.whole cc0_scratch17) (broadcast S104x128 0#32) ∗ pt c (Memref.whole cc0_scratch18) (broadcast S104x128 0#32) ∗ pt c (Memref.whole cc0_scratch19) (broadcast S104x128 0#32) ∗ pt c (Memref.whole cc0_scratch20) (broadcast S104x128 0#32) ∗ pt c (Memref.whole cc0_scratch21) (broadcast S104x128 0#32) ∗ pt c (Memref.whole cc0_scratch22) (broadcast S104x128 0#32) ∗ pt c (Memref.whole cc0_scratch23) (broadcast S104x128 0#32))

/-- The state before the peeling is that after no trips. -/
theorem start_pts (c : Dev nD) (X : Fin 8 → Vec F S640x128 .f32) : startPts c X = peelPts c rows640 lanes X (stop rows640 X 0).1 := rfl

/-- Those are the scratch buffers after no trip. -/
theorem start_ent (c : Dev nD) (X : Fin 8 → Vec F S640x128 .f32) :
    startPts c X ⊢ peelPts c rows640 lanes X (stop rows640 X 0).1 := by
  rw [start_pts]

/-- A word stored at the first counter is what the first counter holds. -/
theorem counter_start (v : View sig .tc .smem S2 .i32) (f : v.ty.Contents (Elt F)) (h0 : ∀ a, ![0] a + S1.size a ≤ S2.size a) (a : Elt F .i32) :
    v.read (Elt F) (v.writes (Elt F) f [⟨Rect.unit ![0] S1.size h0, fun _ => a⟩]) (ix1 (0 : Fin 2)) = a :=
  View.read_writes_cons_unit_of_mem v f h0 _ _ _ (ix1 (0 : Fin 1)) rfl fun a => by fin_cases a; rfl

/-- After the last turn: the counters, whatever is left of the scores, and the collected rows. -/
abbrev endPts (c : Dev nD) (d : S2.Idx → Elt F .i32) (Y : Fin 8 → Vec F S640x128 .f32) (V : Fin 8 → Vec F S104x128 .f32) (E : Fin 8 → Vec F S104x128 .i32) : sProp 𝕄 :=
  iprop(pt c (Memref.whole cc0_scratch24) d ∗ pt c (Memref.whole cc0_scratch0) (Y 0) ∗ pt c (Memref.whole cc0_scratch1) (Y 1) ∗ pt c (Memref.whole cc0_scratch2) (Y 2) ∗ pt c (Memref.whole cc0_scratch3) (Y 3) ∗ pt c (Memref.whole cc0_scratch4) (Y 4) ∗ pt c (Memref.whole cc0_scratch5) (Y 5) ∗ pt c (Memref.whole cc0_scratch6) (Y 6) ∗ pt c (Memref.whole cc0_scratch7) (Y 7) ∗ pt c (Memref.whole cc0_scratch8) (V 0) ∗ pt c (Memref.whole cc0_scratch9) (V 1) ∗ pt c (Memref.whole cc0_scratch10) (V 2) ∗ pt c (Memref.whole cc0_scratch11) (V 3) ∗ pt c (Memref.whole cc0_scratch12) (V 4) ∗ pt c (Memref.whole cc0_scratch13) (V 5) ∗ pt c (Memref.whole cc0_scratch14) (V 6) ∗ pt c (Memref.whole cc0_scratch15) (V 7) ∗ pt c (Memref.whole cc0_scratch16) (E 0) ∗ pt c (Memref.whole cc0_scratch17) (E 1) ∗ pt c (Memref.whole cc0_scratch18) (E 2) ∗ pt c (Memref.whole cc0_scratch19) (E 3) ∗ pt c (Memref.whole cc0_scratch20) (E 4) ∗ pt c (Memref.whole cc0_scratch21) (E 5) ∗ pt c (Memref.whole cc0_scratch22) (E 6) ∗ pt c (Memref.whole cc0_scratch23) (E 7))

/-- The state after the peeling, from that after its last turn. -/
theorem inv_end_of (c : Dev nD) (X : Fin 8 → Vec F S640x128 .f32) (t : ℕ) (ht : 0 < t) :
    inv1 c X t ⊢ iprop(∃ d Y V E, ⌜d (ix1 (1 : Fin 2)) = BitVec.ofNat 32 (tripsOf X t)
        ∧ V = (fun b => peelEv rows640 (X b) (tripsOf X t)) ∧ E = (fun b => peelEi rows640 lanes (X b) (tripsOf X t))⌝ ∗ endPts c d Y V E) := by
  iintro ⟨%d, %hd, H24, H⟩
  iexists d, (fun b => peelX rows640 (X b) (tripsOf X t)), (fun b => peelEv rows640 (X b) (tripsOf X t)), (fun b => peelEi rows640 lanes (X b) (tripsOf X t))
  isplitr
  · ipureintro
    exact ⟨hd.2 ht, rfl, rfl⟩
  isplitl [H24]; · iexact H24
  iexact H

/-- The peeling has a turn. -/
theorem turns1_pos : 0 < turns1 := by rw [turns1_eq]; decide

/-- The collected rows after the last turn are those of `trips X` trips. -/
theorem inv_end (c : Dev nD) (X : Fin 8 → Vec F S640x128 .f32) :
    inv1 c X turns1 ⊢ iprop(∃ d Y V E, ⌜d (ix1 (1 : Fin 2)) = BitVec.ofNat 32 (trips X)
        ∧ V = (fun b => peelEv rows640 (X b) (trips X)) ∧ E = (fun b => peelEi rows640 lanes (X b) (trips X))⌝ ∗ endPts c d Y V E) :=
  inv_end_of c X turns1 turns1_pos

end Cert.KernelIdeal.Val
end
-- ==== Proof.ValBody.lean ====
/-
  The idealized kernel's body on one set of windows: what it leaves in the three result windows, as functions of the
  windows it reads.
-/
module

public import proofs.«01_k».proof.Proof.ValOut

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

section Loops

variable (c : Dev nD)
  (arg0 : Memref sig .tc .vmem S640x128 .f32) (harg0 : arg0.IsWhole)
  (arg1 : Memref sig .tc .vmem S640x128 .f32) (harg1 : arg1.IsWhole)
  (arg2 : Memref sig .tc .vmem S640x128 .f32) (harg2 : arg2.IsWhole)
  (arg3 : Memref sig .tc .vmem S640x128 .f32) (harg3 : arg3.IsWhole)
  (arg4 : Memref sig .tc .vmem S640x128 .f32) (harg4 : arg4.IsWhole)
  (arg5 : Memref sig .tc .vmem S640x128 .f32) (harg5 : arg5.IsWhole)
  (arg6 : Memref sig .tc .vmem S640x128 .f32) (harg6 : arg6.IsWhole)
  (arg7 : Memref sig .tc .vmem S640x128 .f32) (harg7 : arg7.IsWhole)
  (arg8 : Memref sig .tc .vmem S8x1024x4 .f32) (harg8 : arg8.IsWhole)
  (arg9 : Memref sig .tc .vmem S8x4 .f32) (harg9 : arg9.IsWhole)
  (arg10 : Memref sig .tc .vmem S8x128 .f32) (harg10 : arg10.IsWhole)
  (arg11 : Memref sig .tc .vmem S8x128 .i32) (harg11 : arg11.IsWhole)
  (arg12 : Memref sig .tc .vmem S8x128x4 .f32) (harg12 : arg12.IsWhole)

set_option maxHeartbeats 8000000 in
/-- The body's run. -/
theorem kernelRun (X : Fin 8 → Vec F S640x128 .f32) (x8 : Vec F S8x1024x4 .f32) (x9 : Vec F S8x4 .f32) (K : PUnit → sProp 𝕄) :
    iprop(scr c
      ∗ owns (c : Thread nD τ) arg0 fullShare (X 0) ∗ owns (c : Thread nD τ) arg1 fullShare (X 1) ∗ owns (c : Thread nD τ) arg2 fullShare (X 2) ∗ owns (c : Thread nD τ) arg3 fullShare (X 3) ∗ owns (c : Thread nD τ) arg4 fullShare (X 4) ∗ owns (c : Thread nD τ) arg5 fullShare (X 5) ∗ owns (c : Thread nD τ) arg6 fullShare (X 6) ∗ owns (c : Thread nD τ) arg7 fullShare (X 7) ∗ owns (c : Thread nD τ) arg8 fullShare x8 ∗ owns (c : Thread nD τ) arg9 fullShare x9
      ∗ (∃ d, owns (c : Thread nD τ) arg10 fullShare d) ∗ (∃ d, owns (c : Thread nD τ) arg11 fullShare d) ∗ (∃ d, owns (c : Thread nD τ) arg12 fullShare d)
      ∗ (iprop(scr c
          ∗ owns (c : Thread nD τ) arg0 fullShare (X 0) ∗ owns (c : Thread nD τ) arg1 fullShare (X 1) ∗ owns (c : Thread nD τ) arg2 fullShare (X 2) ∗ owns (c : Thread nD τ) arg3 fullShare (X 3) ∗ owns (c : Thread nD τ) arg4 fullShare (X 4) ∗ owns (c : Thread nD τ) arg5 fullShare (X 5) ∗ owns (c : Thread nD τ) arg6 fullShare (X 6) ∗ owns (c : Thread nD τ) arg7 fullShare (X 7) ∗ owns (c : Thread nD τ) arg8 fullShare x8 ∗ owns (c : Thread nD τ) arg9 fullShare x9
          ∗ owns (c : Thread nD τ) arg10 fullShare (out10 X) ∗ owns (c : Thread nD τ) arg11 fullShare (out11 X) ∗ owns (c : Thread nD τ) arg12 fullShare (out12 X x8 x9)) -∗ K ⟨⟩))
      ⊢ wp frame (wpE (defs₀ (F := F)) 𝒱₀ c none) Set.univ (cc0__topk_kernel arg0 harg0 arg1 harg1 arg2 harg2 arg3 harg3 arg4 harg4 arg5 harg5 arg6 harg6 arg7 harg7 arg8 harg8 arg9 harg9 arg10 harg10 arg11 harg11 arg12 harg12
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _)) K  := by
  unfold owns
  iintro ⟨HS, ⟨%g0, %hg0, G0⟩, ⟨%g1, %hg1, G1⟩, ⟨%g2, %hg2, G2⟩, ⟨%g3, %hg3, G3⟩, ⟨%g4, %hg4, G4⟩, ⟨%g5, %hg5, G5⟩, ⟨%g6, %hg6, G6⟩, ⟨%g7, %hg7, G7⟩, ⟨%g8, %hg8, G8⟩, ⟨%g9, %hg9, G9⟩, ⟨%d10, %g10, -, G10⟩, ⟨%d11, %g11, -, G11⟩, ⟨%d12, %g12, -, G12⟩, Hk⟩
  icases HS with ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩⟩
  sl_unfold [cc0__topk_kernel]
  sl_exec
  sl_for (fun k _ => inv1 c X k) $$ [H0 H1 H2 H3 H4 H5 H6 H7 H8 H9 H10 H11 H12 H13 H14 H15 H16 H17 H18 H19 H20 H21 H22 H23 H24]
  case region => exact (T1 c arg0 harg0 arg1 harg1 arg2 harg2 arg3 harg3 arg4 harg4 arg5 harg5 arg6 harg6 arg7 harg7 arg8 harg8 arg9 harg9 arg10 harg10 arg11 harg11 arg12 harg12 rows640 lanes k0_pay189 X).step
  · iexists _
    isplitr
    rotate_left
    isplitl [H24]; · iexact H24
    iapply (start_ent c X)
    isplitl [H0]
    · iapply (pt_eq c) $$ H0
      ipureintro
      exact (wr cc0_scratch0 z2 _ _ _).trans (start_copy arg0.view g0 (X 0) hg0)
    isplitl [H1]
    · iapply (pt_eq c) $$ H1
      ipureintro
      exact (wr cc0_scratch1 z2 _ _ _).trans (start_copy arg1.view g1 (X 1) hg1)
    isplitl [H2]
    · iapply (pt_eq c) $$ H2
      ipureintro
      exact (wr cc0_scratch2 z2 _ _ _).trans (start_copy arg2.view g2 (X 2) hg2)
    isplitl [H3]
    · iapply (pt_eq c) $$ H3
      ipureintro
      exact (wr cc0_scratch3 z2 _ _ _).trans (start_copy arg3.view g3 (X 3) hg3)
    isplitl [H4]
    · iapply (pt_eq c) $$ H4
      ipureintro
      exact (wr cc0_scratch4 z2 _ _ _).trans (start_copy arg4.view g4 (X 4) hg4)
    isplitl [H5]
    · iapply (pt_eq c) $$ H5
      ipureintro
      exact (wr cc0_scratch5 z2 _ _ _).trans (start_copy arg5.view g5 (X 5) hg5)
    isplitl [H6]
    · iapply (pt_eq c) $$ H6
      ipureintro
      exact (wr cc0_scratch6 z2 _ _ _).trans (start_copy arg6.view g6 (X 6) hg6)
    isplitl [H7]
    · iapply (pt_eq c) $$ H7
      ipureintro
      exact (wr cc0_scratch7 z2 _ _ _).trans (start_copy arg7.view g7 (X 7) hg7)
    isplitl [H8]
    · iapply (pt_eq c) $$ H8
      ipureintro
      exact (wr cc0_scratch8 z2 _ _ _).trans (start_fill _)
    isplitl [H9]
    · iapply (pt_eq c) $$ H9
      ipureintro
      exact (wr cc0_scratch9 z2 _ _ _).trans (start_fill _)
    isplitl [H10]
    · iapply (pt_eq c) $$ H10
      ipureintro
      exact (wr cc0_scratch10 z2 _ _ _).trans (start_fill _)
    isplitl [H11]
    · iapply (pt_eq c) $$ H11
      ipureintro
      exact (wr cc0_scratch11 z2 _ _ _).trans (start_fill _)
    isplitl [H12]
    · iapply (pt_eq c) $$ H12
      ipureintro
      exact (wr cc0_scratch12 z2 _ _ _).trans (start_fill _)
    isplitl [H13]
    · iapply (pt_eq c) $$ H13
      ipureintro
      exact (wr cc0_scratch13 z2 _ _ _).trans (start_fill _)
    isplitl [H14]
    · iapply (pt_eq c) $$ H14
      ipureintro
      exact (wr cc0_scratch14 z2 _ _ _).trans (start_fill _)
    isplitl [H15]
    · iapply (pt_eq c) $$ H15
      ipureintro
      exact (wr cc0_scratch15 z2 _ _ _).trans (start_fill _)
    isplitl [H16]
    · iapply (pt_eq c) $$ H16
      ipureintro
      exact (wr cc0_scratch16 z2 _ _ _).trans (start_fill _)
    isplitl [H17]
    · iapply (pt_eq c) $$ H17
      ipureintro
      exact (wr cc0_scratch17 z2 _ _ _).trans (start_fill _)
    isplitl [H18]
    · iapply (pt_eq c) $$ H18
      ipureintro
      exact (wr cc0_scratch18 z2 _ _ _).trans (start_fill _)
    isplitl [H19]
    · iapply (pt_eq c) $$ H19
      ipureintro
      exact (wr cc0_scratch19 z2 _ _ _).trans (start_fill _)
    isplitl [H20]
    · iapply (pt_eq c) $$ H20
      ipureintro
      exact (wr cc0_scratch20 z2 _ _ _).trans (start_fill _)
    isplitl [H21]
    · iapply (pt_eq c) $$ H21
      ipureintro
      exact (wr cc0_scratch21 z2 _ _ _).trans (start_fill _)
    isplitl [H22]
    · iapply (pt_eq c) $$ H22
      ipureintro
      exact (wr cc0_scratch22 z2 _ _ _).trans (start_fill _)
    · iapply (pt_eq c) $$ H23
      ipureintro
      exact (wr cc0_scratch23 z2 _ _ _).trans (start_fill _)
    ipureintro
    exact ⟨counter_start (Memref.whole cc0_scratch24).view f24 inb_S2_S1_0 0#32, fun h => absurd h (lt_irrefl 0)⟩
  iintro %_ HI
  ihave HI' := (inv_end c X) $$ HI
  icases HI' with ⟨%d, %Y, %V, %E, %hd, H24, H0, H1, H2, H3, H4, H5, H6, H7, H8, H9, H10, H11, H12, H13, H14, H15, H16, H17, H18, H19, H20, H21, H22, H23⟩
  obtain ⟨hcnt, hV, hE⟩ := hd
  obtain ⟨n, hn0⟩ : ∃ n, n = trips X := ⟨_, rfl⟩
  have hnl : n < 101 := hn0 ▸ Nat.lt_succ_of_le (trips_le X)
  rw [← hn0] at hcnt
  sl_exec
  have hsm : Iff (kernelRun.sl.v127 d = 1#1) (n ≤ 8) := by
    refine Iff.trans (Eq.to_iff (congrArg (fun w : BitVec 32 => Scalar.cmpi .ne (Scalar.extui (Scalar.cmpi .sle w 8#32) : BitVec 32) 0#32 = 1#1) ?_))
      (small_iff ⟨n, hnl⟩)
    exact (congrArg (show S2.Idx → Elt F .i32 from d) (funext fun a => by fin_cases a; rfl)).trans hcnt
  refine ite_split c (fun hc => ?_) (fun hc => ?_)
  · have hn : n ≤ 8 := hsm.1 hc
    sl_exec
    sl_for (fun k acc => iprop(⌜acc = carry8 lanes (fun b => first8 (E b)) (fun b => first8 (V b)) k⌝)) $$ []
    case region => exact (T2 c arg0 harg0 arg1 harg1 arg2 harg2 arg3 harg3 arg4 harg4 arg5 harg5 arg6 harg6 arg7 harg7 arg8 harg8 arg9 harg9 arg10 harg10 arg11 harg11 arg12 harg12 lanes k0_pay197 k0_pay198 k0_pay199 k0_pay200 k0_pay201 k0_pay202 k0_pay203 k0_pay204 k0_pay205 k0_pay206 k0_pay207 k0_pay208 k0_pay209 k0_pay210 k0_pay211 k0_pay212 (fun b => first8 (E b)) (fun b => first8 (V b)) (carry8 lanes (fun b => first8 (E b)) (fun b => first8 (V b)) 0)).step
    · ipureintro
      rfl
    iintro %acc %hacc
    generalize hN : Scf.trips k0_t2_loop.lb k0_t2_loop.ub k0_t2_loop.st = N at hacc
    subst hacc
    sl_exec
    refine ite_split c (fun hb => ?_) (fun hb => ?_)
    · exact absurd hb (fun hb => absurd hn (Nat.not_le.mpr ((Iff.trans (Eq.to_iff (congrArg (fun w : BitVec 32 => Scalar.cmpi .ne (Scalar.extui (Scalar.cmpi .sgt w 8#32) : BitVec 32) 0#32 = 1#1)
        ((congrArg (show S2.Idx → Elt F .i32 from d) (funext fun a => by fin_cases a; rfl)).trans hcnt))) (big_iff ⟨n, hnl⟩)).1 hb)))
    sl_exec
    sl_step
    iapply Hk
    isplitl [H0 H1 H2 H3 H4 H5 H6 H7 H8 H9 H10 H11 H12 H13 H14 H15 H16 H17 H18 H19 H20 H21 H22 H23 H24]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      iexists _; iexact H24
    isplitl [G0]; · iapply (owns_of c hg0) $$ G0
    isplitl [G1]; · iapply (owns_of c hg1) $$ G1
    isplitl [G2]; · iapply (owns_of c hg2) $$ G2
    isplitl [G3]; · iapply (owns_of c hg3) $$ G3
    isplitl [G4]; · iapply (owns_of c hg4) $$ G4
    isplitl [G5]; · iapply (owns_of c hg5) $$ G5
    isplitl [G6]; · iapply (owns_of c hg6) $$ G6
    isplitl [G7]; · iapply (owns_of c hg7) $$ G7
    isplitl [G8]; · iapply (owns_of c hg8) $$ G8
    isplitl [G9]; · iapply (owns_of c hg9) $$ G9
    isplitl [G10]
    · iexists _
      isplitr
      rotate_left
      · iexact G10
      · ipureintro
        exact out10_of arg10.view g10 X (fun b => selS sides8 lanes (first8 (E b)) (first8 (V b)) N) (best_small X n hn0 hn V E hV hE N hN).1
    isplitl [G11]
    · iexists _
      isplitr
      rotate_left
      · iexact G11
      · ipureintro
        exact out11_of arg11.view g11 X (fun b => selF sides8 lanes (first8 (E b)) (first8 (V b)) N) (best_small X n hn0 hn V E hV hE N hN).2
    iexists _
    isplitr
    rotate_left
    · iexact G12
    · ipureintro
      exact out12_of arg11.view arg8.view arg9.view arg12.view g12 g8 g9 X x8 x9 hg8 hg9 (fun b => selF sides8 lanes (first8 (E b)) (first8 (V b)) N) (best_small X n hn0 hn V E hV hE N hN).2
  · have hn : ¬ n ≤ 8 := fun h => hc (hsm.2 h)
    sl_exec
    refine ite_split c (fun hb => ?_) (fun hb => ?_)
    rotate_left
    · exact absurd ((Iff.trans (Eq.to_iff (congrArg (fun w : BitVec 32 => Scalar.cmpi .ne (Scalar.extui (Scalar.cmpi .sgt w 8#32) : BitVec 32) 0#32 = 1#1)
        ((congrArg (show S2.Idx → Elt F .i32 from d) (funext fun a => by fin_cases a; rfl)).trans hcnt))) (big_iff ⟨n, hnl⟩)).2 (Nat.not_le.mp hn)) hb
    sl_exec
    sl_for (fun k acc => iprop(⌜acc = carry104 lanes E V k⌝ ∗ selPts c E V k)) $$ [H8 H9 H10 H11 H12 H13 H14 H15 H16 H17 H18 H19 H20 H21 H22 H23]
    case region => exact (T3 c arg0 harg0 arg1 harg1 arg2 harg2 arg3 harg3 arg4 harg4 arg5 harg5 arg6 harg6 arg7 harg7 arg8 harg8 arg9 harg9 arg10 harg10 arg11 harg11 arg12 harg12 lanes k0_pay197 k0_pay198 k0_pay199 k0_pay200 k0_pay201 k0_pay202 k0_pay203 k0_pay204 k0_pay205 k0_pay206 k0_pay207 k0_pay208 k0_pay209 k0_pay210 k0_pay211 k0_pay212 E V).step
    · isplitr
      · ipureintro
        rfl
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iexact H23
    iintro %acc ⟨%hacc, H8, H9, H10, H11, H12, H13, H14, H15, H16, H17, H18, H19, H20, H21, H22, H23⟩
    generalize hN : Scf.trips k0_t3_loop.lb k0_t3_loop.ub k0_t3_loop.st = N at *
    subst hacc
    sl_exec
    sl_step
    iapply Hk
    isplitl [H0 H1 H2 H3 H4 H5 H6 H7 H8 H9 H10 H11 H12 H13 H14 H15 H16 H17 H18 H19 H20 H21 H22 H23 H24]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      iexists _; iexact H24
    isplitl [G0]; · iapply (owns_of c hg0) $$ G0
    isplitl [G1]; · iapply (owns_of c hg1) $$ G1
    isplitl [G2]; · iapply (owns_of c hg2) $$ G2
    isplitl [G3]; · iapply (owns_of c hg3) $$ G3
    isplitl [G4]; · iapply (owns_of c hg4) $$ G4
    isplitl [G5]; · iapply (owns_of c hg5) $$ G5
    isplitl [G6]; · iapply (owns_of c hg6) $$ G6
    isplitl [G7]; · iapply (owns_of c hg7) $$ G7
    isplitl [G8]; · iapply (owns_of c hg8) $$ G8
    isplitl [G9]; · iapply (owns_of c hg9) $$ G9
    isplitl [G10]
    · iexists _
      isplitr
      rotate_left
      · iexact G10
      · ipureintro
        exact out10_of arg10.view g10 X (fun b => selS sides104 lanes (E b) (V b) N) (best_big X n hn0 hn V E hV hE N hN).1
    isplitl [G11]
    · iexists _
      isplitr
      rotate_left
      · iexact G11
      · ipureintro
        exact out11_of arg11.view g11 X (fun b => selF sides104 lanes (E b) (V b) N) (best_big X n hn0 hn V E hV hE N hN).2
    iexists _
    isplitr
    rotate_left
    · iexact G12
    · ipureintro
      exact out12_of arg11.view arg8.view arg9.view arg12.view g12 g8 g9 X x8 x9 hg8 hg9 (fun b => selF sides104 lanes (E b) (V b) N) (best_big X n hn0 hn V E hV hE N hN).2

end Loops

end Cert.KernelIdeal.Val
end
-- ==== Proof.ValRun.lean ====
/-
  The idealized program's run: from any memory it ends with its three results the slices of what the body computes from
  the blocks it reads, its arguments as they were and every counter at zero.
-/
module

public import proofs.«01_k».proof.Proof.ValBody
public import proofs.«01_k».proof.Proof.Gen.KernelIdeal.Frame
public import Idealize.ShloMosaic.Lib.Pipeline.FrameSuffix
public import Idealize.ShloMosaic.Lib.Pipeline.ValueKit
public import Idealize.ShloMosaic.Lib.StableHlo.RunRead

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight score windows' blocks. -/
def blocks (c : Dev nD) (t : Fin cfg0.N) (b : Fin 8) : Vec F S640x128 .f32 := match b with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t

/-- The arrays as the region finds them; after the body each input's buffer at its block and each result's at what the
    body computes from the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (blocks m c t)
    | ⟨11, _⟩ => out11 (blocks m c t)
    | ⟨12, _⟩ => out12 (blocks m c t) (iblk m c 8 t) (iblk m c 9 t)
  Φ _ := Pipeline.ΦA spec0 c
  q _ := fullShare
  owed _ := 0

/-- The array behind a window before the launch. -/
theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out10 (blocks m c t) := by dsimp only [dats]
theorem after0_11 (c : Dev nD) (t : Fin cfg0.N) : (dats m 0 c).after 11 t = out11 (blocks m c t) := by dsimp only [dats]
theorem after0_12 (c : Dev nD) (t : Fin cfg0.N) : (dats m 0 c).after 12 t = out12 (blocks m c t) (iblk m c 8 t) (iblk m c 9 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

set_option maxHeartbeats 4000000 in
/-- The kernel's scratch buffers, as the launch hands them over. -/
theorem scr_of (c : Dev nD) : (Pipeline.scopedRest (Ix := Unit) (Name := ℕ) (U := UR sig nD τ) (Lvl := ℕ) (Val := Elt F) spec0 c : sProp 𝕄) = scr c :=
  scopedRest0_eq c

set_option maxHeartbeats 4000000 in
/-- The body meets what the launch asks of it. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10, after0_11, after0_12,
    show (dats m 0 c).Φ t.castSucc = Pipeline.ΦA spec0 c from rfl]
  unfold Pipeline.ΦA
  rw [scr_of]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (kernelRun c _ _ _ _ _ _ _ _ _ _ _ _ _ _ _ _ _ _ _ _ _ _ _ _ _ _ (blocks m c t) (iblk m c 8 t) (iblk m c 9 t) _)
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨HS, H0, H1, H2, H3, H4, H5, H6, H7, H8, H9, H10, H11, H12⟩
  isplitl [HS HR]; · isplitl [HS]; · iexact HS
                     iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option backward.isDefEq.respectTransparency.types false in
/-- The program's run, at the arrays the launch computes. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) sfx_sub sfx_fresh sfx_keeps
    (hmain := hmain m 𝒱₀) (hA := fun _ _ => rfl) (hΦ := fun _ _ => rfl)

/-- The first result's array after the region, -/
theorem final10 (c : Dev nD) : (dats m 0 c).arrAt 10 cfg0.N = out10 (blocks m c t0_0) := by
  refine (dats m 0 c).arrAt_eq_of_after_last 10 t0_0 (by decide +kernel) _ fun j => ?_
  blk_simp
  rw [after0_10]
/-- the second's, -/
theorem final11 (c : Dev nD) : (dats m 0 c).arrAt 11 cfg0.N = out11 (blocks m c t0_0) := by
  refine (dats m 0 c).arrAt_eq_of_after_last 11 t0_0 (by decide +kernel) _ fun j => ?_
  blk_simp
  rw [after0_11]
/-- and the third's. -/
theorem final12 (c : Dev nD) : (dats m 0 c).arrAt 12 cfg0.N = out12 (blocks m c t0_0) (iblk m c 8 t0_0) (iblk m c 9 t0_0) := by
  refine (dats m 0 c).arrAt_eq_of_after_last 12 t0_0 (by decide +kernel) _ fun j => ?_
  blk_simp
  rw [after0_12]

/-- The results are slices of those arrays. -/
theorem tail32 (c : Dev nD) : Pipeline.afterTail₀ cfgs (dats m) 0 (V0 m) [hostOps1] c main_v32
    = extractStridedSlice S8x100 ![0, 0] (out10 (blocks m c t0_0)) slices_S8x128_S8x100_0_0 := by
  unfold Pipeline.afterTail₀
  after_reads_simp
  exact congrArg (extractStridedSlice S8x100 ![0, 0] · slices_S8x128_S8x100_0_0) ((Pipeline.withArrays_arr spec0 winFacts0.arr_inj c (V0 m c) (fun w => (dats m 0 c).arrAt w cfg0.N) 10).trans (final10 m c))
theorem tail33 (c : Dev nD) : Pipeline.afterTail₀ cfgs (dats m) 0 (V0 m) [hostOps1] c main_v33
    = extractStridedSlice S8x100 ![0, 0] (out11 (blocks m c t0_0)) slices_S8x128_S8x100_0_0 := by
  unfold Pipeline.afterTail₀
  after_reads_simp
  exact congrArg (extractStridedSlice S8x100 ![0, 0] · slices_S8x128_S8x100_0_0) ((Pipeline.withArrays_arr spec0 winFacts0.arr_inj c (V0 m c) (fun w => (dats m 0 c).arrAt w cfg0.N) 11).trans (final11 m c))
theorem tail34 (c : Dev nD) : Pipeline.afterTail₀ cfgs (dats m) 0 (V0 m) [hostOps1] c main_v34
    = extractStridedSlice S8x100x4 ![0, 0, 0] (out12 (blocks m c t0_0) (iblk m c 8 t0_0) (iblk m c 9 t0_0)) slices_S8x128x4_S8x100x4_0_0_0 := by
  unfold Pipeline.afterTail₀
  after_reads_simp
  exact congrArg (extractStridedSlice S8x100x4 ![0, 0, 0] · slices_S8x128x4_S8x100x4_0_0_0) ((Pipeline.withArrays_arr spec0 winFacts0.arr_inj c (V0 m c) (fun w => (dats m 0 c).arrAt w cfg0.N) 12).trans (final12 m c))

/-- Every run ends with the three results at those values and the arguments as they were. -/
theorem run : θ_run defs (onTc (τ := τ) (main (F := F))) ⟨m, fun _ => 0, ρ⟩ (fun r => ∀ c : Dev nD,
      r.2.mem ((c.tc : Thread nD τ).loc main_v32) = extractStridedSlice S8x100 ![0, 0] (out10 (blocks m c t0_0)) slices_S8x128_S8x100_0_0
      ∧ r.2.mem ((c.tc : Thread nD τ).loc main_v33) = extractStridedSlice S8x100 ![0, 0] (out11 (blocks m c t0_0)) slices_S8x128_S8x100_0_0
      ∧ r.2.mem ((c.tc : Thread nD τ).loc main_v34) = extractStridedSlice S8x100x4 ![0, 0, 0] (out12 (blocks m c t0_0) (iblk m c 8 t0_0) (iblk m c 9 t0_0)) slices_S8x128x4_S8x100x4_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).2 main_v32 (Pipeline.mem_restRefs_of main_v32 (by decide) (by decide))).trans (tail32 m c),
      ((h.1 c).2 main_v33 (Pipeline.mem_restRefs_of main_v33 (by decide) (by decide))).trans (tail33 m c),
      ((h.1 c).2 main_v34 (Pipeline.mem_restRefs_of main_v34 (by decide) (by decide))).trans (tail34 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩) (run_main m ρ)

end Cert.KernelIdeal.Val
end
-- ==== Proof.Extremes.lean ====
/-
  The largest entry of a row, column or array of scores, and the smallest of a family of words, as the kernel's reductions
  compute them at exact numbers: each is attained, and it bounds every entry.
-/
module

public import proofs.«01_k».proof.Proof.Peel
public import Idealize.ShloMosaic.Lib.Pointwise
public import Idealize.ShloMosaic.PureOps.Ideal.Laws
public import Idealize.ShloMosaic.Lib.SortNet.Extract

@[expose] public section

set_option maxRecDepth 16384

noncomputable section

namespace Cert.KernelIdeal.Val

open Cert.KernelIdeal Cert.KernelIdeal.Gen
open Idealize.ShloMosaic

/-- The maximum's starting value is the least number. -/
theorem start_bot : (FloatOps.ofBits (F := Ideal) .f32 0xFF800000#32 : EReal) = ⊥ := by
  show Ideal.ofBits .f32 0xFF800000#32 = ⊥
  simp [Ideal.ofBits, Ideal.ieee]

/-- A maximum over finitely many numbers is one of them and at least each. -/
theorem fold_max_spec {ι : Type} [Fintype ι] [Nonempty ι] (f : ι → EReal) :
    (∃ i, (Finset.univ : Finset ι).fold max ⊥ f = f i) ∧ ∀ i, f i ≤ (Finset.univ : Finset ι).fold max ⊥ f := by
  have e : (Finset.univ : Finset ι).fold max ⊥ f = Finset.univ.sup f := rfl
  rw [e]
  obtain ⟨i, -, hi⟩ := Finset.exists_mem_eq_sup Finset.univ Finset.univ_nonempty f
  exact ⟨⟨i, hi⟩, fun i => Finset.le_sup (Finset.mem_univ i)⟩

/-- The smaller of two words below 2^31. -/
theorem toNat_minsi (a b : BitVec 32) (ha : a.toNat < 2 ^ 31) (hb : b.toNat < 2 ^ 31) :
    (IntOp.minsi a b).toNat = min a.toNat b.toNat := by
  have h : IntOp.minsi a b = if a.toNat < b.toNat then a else b := by
    show (if a.slt b then a else b) = _
    have : a.slt b = decide (a.toNat < b.toNat) := by
      rw [BitVec.slt, BitVec.toInt_eq_toNat_of_lt (by omega), BitVec.toInt_eq_toNat_of_lt (by omega)]
      simp
    rw [this]
    simp
  rw [h]
  split <;> omega

/-- A minimum over finitely many words below 2^31 is one of them and at most each. -/
theorem fold_min_spec {ι : Type} [Fintype ι] [Nonempty ι] (f : ι → BitVec 32) (hf : ∀ i, (f i).toNat < 2 ^ 31) :
    (∃ i, (Finset.univ : Finset ι).fold IntOp.minsi 2147483647#32 f = f i)
      ∧ ∀ i, ((Finset.univ : Finset ι).fold IntOp.minsi 2147483647#32 f).toNat ≤ (f i).toNat := by
  classical
  have key : ∀ s : Finset ι, ((s.fold IntOp.minsi 2147483647#32 f = 2147483647#32) ∨ ∃ i, s.fold IntOp.minsi 2147483647#32 f = f i)
      ∧ ∀ i ∈ s, (s.fold IntOp.minsi 2147483647#32 f).toNat ≤ (f i).toNat := by
    intro s
    induction s using Finset.induction_on with
    | empty => exact ⟨.inl rfl, fun i hi => absurd hi (Finset.notMem_empty i)⟩
    | insert a s ha ih =>
      rw [Finset.fold_insert ha]
      have hlt : (s.fold IntOp.minsi 2147483647#32 f).toNat < 2 ^ 31 := by
        rcases ih.1 with h | ⟨i, h⟩
        · rw [h]; decide
        · rw [h]; exact hf i
      have hm := toNat_minsi (f a) _ (hf a) hlt
      refine ⟨?_, fun i hi => ?_⟩
      · by_cases hc : (f a).toNat ≤ (s.fold IntOp.minsi 2147483647#32 f).toNat
        · exact .inr ⟨a, BitVec.eq_of_toNat_eq (hm.trans (min_eq_left hc))⟩
        · have e := BitVec.eq_of_toNat_eq (hm.trans (min_eq_right (by omega)))
          rw [e]
          exact ih.1
      · rw [hm]
        rcases Finset.mem_insert.1 hi with rfl | hi
        · exact min_le_left _ _
        · exact (min_le_right _ _).trans (ih.2 i hi)
  obtain ⟨h1, h2⟩ := key Finset.univ
  refine ⟨?_, fun i => h2 i (Finset.mem_univ i)⟩
  rcases h1 with h | h
  · obtain ⟨i⟩ := ‹Nonempty ι›
    refine ⟨i, BitVec.eq_of_toNat_eq ?_⟩
    have := h2 i (Finset.mem_univ i)
    rw [h] at this ⊢
    have e : (2147483647#32 : BitVec 32).toNat = 2147483647 := rfl
    have := hf i
    omega
  · exact h

section Reads

variable {h : ℕ} (hr : (rowsShape h).Reduces [0] S128)

/-- The maximum of each column. -/
theorem col_max (v : FVec Ideal (rowsShape h) .f32) (c : Fin 128) :
    shapeCast S1x128 (multiReduction .maximumf [0] S128 v 0xFF800000#32 hr (.inl rfl) rfl) shapeCasts_S128_S1x128 (ix2 0 c)
      = (Finset.univ : Finset (Fin h)).fold max ⊥ fun k => v (ix2 k c) := by
  simp only [pointwise, start_bot]

/-- The greatest entry of a row, -/
theorem row_max (v : FVec Ideal S1x128 .f32) :
    shapeCast S1x1 (multiReduction .maximumf [1] S1 v 0xFF800000#32 reduces_S1x128_S1 (.inl rfl) rfl) shapeCasts_S1_S1x1 (ix2 0 0)
      = (Finset.univ : Finset (Fin 128)).fold max ⊥ fun k => v (ix2 0 k) := by
  simp only [pointwise, start_bot]

/-- the least entry of a column of words, -/
theorem col_min (v : IVec (rowsShape h) 32) (c : Fin 128) :
    shapeCast S1x128 (multiReductionI .minsi [0] S128 v 2147483647#32 hr rfl) shapeCasts_S128_S1x128 (ix2 0 c)
      = (Finset.univ : Finset (Fin h)).fold IntOp.minsi 2147483647#32 fun k => v (ix2 k c) := by
  simp only [pointwise, start_bot]

/-- and the least entry of a row of words. -/
theorem row_min (v : IVec S1x128 32) :
    shapeCast S1x1 (multiReductionI .minsi [1] S1 v 2147483647#32 reduces_S1x128_S1 rfl) shapeCasts_S1_S1x1 (ix2 0 0)
      = (Finset.univ : Finset (Fin 128)).fold IntOp.minsi 2147483647#32 fun k => v (ix2 0 k) := by
  simp only [pointwise, start_bot]

end Reads

end Cert.KernelIdeal.Val
end
-- ==== Proof.PeelStep.lean ====
/-
  One peeling trip at exact numbers: from every column the first of its largest scores is taken, its flat position is
  written down, and the padding value is left in its place.  And what the flag of a trip counts.
-/
module

public import proofs.«01_k».proof.Proof.Extremes
public import proofs.«01_k».proof.Proof.ValOut
public import Idealize.ShloMosaic.Lib.WordSum

@[expose] public section

set_option maxRecDepth 16384

noncomputable section

namespace Cert.KernelIdeal.Val

open Cert.KernelIdeal Cert.KernelIdeal.Gen
open Idealize.ShloMosaic

/-- A choice by equality of words. -/
theorem select_eq {α : Type} {w : ℕ} (a b : BitVec w) (x y : α) :
    Scalar.select (IntOp.cmpi .eq a b) x y = if a = b then x else y := by
  unfold Scalar.select IntOp.cmpi
  by_cases h : a = b
  · subst h
    rw [if_pos rfl, beq_self_eq_true]
    rfl
  · rw [if_neg h, beq_eq_false_iff_ne.2 h]
    rfl

/-- The number of a small index written as a word. -/
theorem toNat_small {n b : ℕ} (hb : b ≤ 2 ^ 32) (k : Fin n) (hn : n ≤ b) : (BitVec.ofNat 32 k.val).toNat = k.val := by
  rw [BitVec.toNat_ofNat]
  have := k.isLt
  exact Nat.mod_eq_of_lt (by omega)

/-- The largest score of a column. -/
theorem colMax_apply (x : Vec Ideal S640x128 .f32) (c : Fin 128) :
    colMax x (ix2 0 c) = (Finset.univ : Finset (Fin 640)).fold max ⊥ fun k => x (ix2 k c) := by
  unfold colMax k0_pay4 k0_pay2
  simp only [pointwise, start_bot]

/-- The first row holding it, as a word. -/
theorem firstRow_apply (v0 : IVec S640x128 32) (x : Vec Ideal S640x128 .f32) (c : Fin 128) :
    k0_pay3 v0 x (ix2 0 c) = (Finset.univ : Finset (Fin 640)).fold IntOp.minsi 2147483647#32 fun k =>
      if x (ix2 k c) = colMax x (ix2 0 c) then v0 (ix2 k c) else 1073741824#32 := by
  unfold k0_pay3 colMax k0_pay4
  simp only [pointwise, start_bot]
  rfl

/-- The position a trip records of a column, -/
theorem colPos_apply (v0 : IVec S640x128 32) (v1 : IVec S1x128 32) (x : Vec Ideal S640x128 .f32) (c : Fin 128) :
    colPos v0 v1 x (ix2 0 c) = k0_pay3 v0 x (ix2 0 c) * 128#32 + v1 (ix2 0 c) := by
  unfold colPos k0_pay5
  simp only [pointwise]
  rfl

/-- what it leaves in a cell, -/
theorem peelNext_apply (v0 : IVec S640x128 32) (x : Vec Ideal S640x128 .f32) (r : Fin 640) (c : Fin 128) :
    peelNext v0 x (ix2 r c) = if v0 (ix2 r c) = k0_pay3 v0 x (ix2 0 c) then neg (F := Ideal) else x (ix2 r c) := by
  unfold peelNext k0_pay7 k0_pay6 neg
  simp only [pointwise]
  exact select_eq _ _ _ _

/-- and what it leaves as the program writes it. -/
theorem peelNext_cast (v0 : IVec S640x128 32) (x : Vec Ideal S640x128 .f32) : k0_pay6 v0 x = peelNext v0 x := by
  unfold peelNext k0_pay7
  exact (shapeCast_id _ _).symm

/-- A row number, read. -/
theorem rows_apply (r : Fin 640) (c : Fin 128) : rows640 (ix2 r c) = BitVec.ofNat 32 r.val := by
  show BitVec.ofNat 32 (0 * 640 + r.val) = _
  rw [Nat.zero_mul, Nat.zero_add]

/-- A lane number, read. -/
theorem lanes_apply (c : Fin 128) : lanes (ix2 0 c) = BitVec.ofNat 32 c.val := by
  show BitVec.ofNat 32 (0 * 128 + c.val) = _
  rw [Nat.zero_mul, Nat.zero_add]

/-- One trip. -/
theorem peel_step (x : Vec Ideal S640x128 .f32) (c : Fin 128) :
    ∃ r : Fin 640, (∀ r', x (ix2 r' c) ≤ x (ix2 r c)) ∧ (∀ r', x (ix2 r' c) = x (ix2 r c) → r ≤ r')
      ∧ colMax x (ix2 0 c) = x (ix2 r c) ∧ colPos rows640 lanes x (ix2 0 c) = BitVec.ofNat 32 (r.val * 128 + c.val)
      ∧ ∀ r', peelNext rows640 x (ix2 r' c) = if r = r' then neg (F := Ideal) else x (ix2 r' c) := by
  obtain ⟨⟨r0, hr0⟩, hmax⟩ := fold_max_spec fun k : Fin 640 => x (ix2 k c)
  rw [← colMax_apply x c] at hr0 hmax
  have hw : ∀ k : Fin 640, (BitVec.ofNat 32 k.val).toNat = k.val := fun k => toNat_small le_rfl k (by omega)
  obtain ⟨⟨r, hr⟩, hmin⟩ := fold_min_spec (fun k : Fin 640 => if x (ix2 k c) = colMax x (ix2 0 c) then rows640 (ix2 k c) else 1073741824#32)
    (fun k => by
      show (if x (ix2 k c) = colMax x (ix2 0 c) then rows640 (ix2 k c) else 1073741824#32).toNat < 2 ^ 31
      split
      · rw [rows_apply, hw k]; have := k.isLt; omega
      · decide)
  rw [← firstRow_apply rows640 x c] at hr hmin
  have hbig : (1073741824#32 : BitVec 32).toNat = 1073741824 := rfl
  have hle : ∀ k : Fin 640, x (ix2 k c) = colMax x (ix2 0 c) → (k0_pay3 rows640 x (ix2 0 c)).toNat ≤ k.val := fun k hk => by
    have := hmin k
    rw [if_pos hk, rows_apply, hw k] at this
    exact this
  have hxr : x (ix2 r c) = colMax x (ix2 0 c) := by
    by_contra hne
    rw [if_neg hne] at hr
    have := hle r0 hr0.symm
    rw [hr, hbig] at this
    have := r0.isLt
    omega
  rw [if_pos hxr, rows_apply] at hr
  refine ⟨r, fun r' => hxr ▸ hmax r', fun r' hr' => ?_, hxr.symm, ?_, fun r' => ?_⟩
  · have := hle r' (hr'.trans hxr)
    rw [hr, hw r] at this
    exact this
  · rw [colPos_apply, hr, lanes_apply]
    apply BitVec.eq_of_toNat_eq
    have := r.isLt
    have := c.isLt
    simp only [BitVec.toNat_add, BitVec.toNat_mul, BitVec.toNat_ofNat]
    omega
  · rw [peelNext_apply, rows_apply, hr]
    refine if_congr ⟨fun h => ?_, fun h => by rw [h]⟩ rfl rfl
    have := congrArg BitVec.toNat h
    rw [hw, hw] at this
    exact (Fin.ext this).symm

/-! ## The flag -/

/-- The largest score left after the trip. -/
def leftMax (v0 : IVec S640x128 32) (x : Vec Ideal S640x128 .f32) : EReal :=
  (Finset.univ : Finset (Fin 128)).fold max ⊥ fun c => (Finset.univ : Finset (Fin 640)).fold max ⊥ fun k => peelNext v0 x (ix2 k c)

/-- No score left exceeds the greatest score left. -/
theorem leftMax_ge (v0 : IVec S640x128 32) (x : Vec Ideal S640x128 .f32) (r : Fin 640) (c : Fin 128) :
    peelNext v0 x (ix2 r c) ≤ leftMax v0 x :=
  ((fold_max_spec fun k : Fin 640 => peelNext v0 x (ix2 k c)).2 r).trans
    ((fold_max_spec fun c : Fin 128 => (Finset.univ : Finset (Fin 640)).fold max ⊥ fun k => peelNext v0 x (ix2 k c)).2 c)

/-- Adding words one after the other is their sum. -/
theorem fold_addi {ι : Type} [Fintype ι] (f : ι → BitVec 32) : (Finset.univ : Finset ι).fold IntOp.addi 0#32 f = ∑ i, f i := by
  classical
  have : ∀ s : Finset ι, s.fold IntOp.addi 0#32 f = ∑ i ∈ s, f i := fun s => by
    induction s using Finset.induction_on with
    | empty => rfl
    | insert a s ha ih => rw [Finset.fold_insert ha, Finset.sum_insert ha, ih]; rfl
  exact this _

/-- The count the flag compares is the number of collected scores above everything left. -/
theorem count_apply (v0 : IVec S640x128 32) (x : Vec Ideal S640x128 .f32) (ev : Vec Ideal S104x128 .f32) :
    (k0_pay8 v0 x ev (ix2 0 0)).toNat = ((Finset.univ : Finset (Fin 104 × Fin 128)).filter fun q => leftMax v0 x < ev (ix2 q.1 q.2)).card := by
  have e : k0_pay8 v0 x ev (ix2 0 0) = ∑ c : Fin 128, ∑ k : Fin 104, BitVec.setWidth 32 (BitVec.ofBool (decide (leftMax v0 x < ev (ix2 k c)))) := by
    unfold k0_pay8 leftMax
    rw [← peelNext_cast]
    simp only [pointwise, start_bot, fold_addi]
  have hb : ∀ (b : Bool), (BitVec.setWidth 32 (BitVec.ofBool b)).toNat = if b then 1 else 0 := by decide
  have hb1 : ∀ (b : Bool), (if b then 1 else 0 : ℕ) ≤ 1 := by decide
  have hin : ∀ c : Fin 128, ∑ k : Fin 104, (BitVec.setWidth 32 (BitVec.ofBool (decide (leftMax v0 x < ev (ix2 k c))))).toNat ≤ 104 := fun c =>
    (Finset.sum_le_sum fun k _ => (hb _).le.trans (hb1 _)).trans (by rw [Finset.sum_const, Finset.card_univ, Fintype.card_fin]; rfl)
  have hinv : ∀ c : Fin 128, (∑ k : Fin 104, BitVec.setWidth 32 (BitVec.ofBool (decide (leftMax v0 x < ev (ix2 k c))))).toNat
      = ∑ k : Fin 104, (BitVec.setWidth 32 (BitVec.ofBool (decide (leftMax v0 x < ev (ix2 k c))))).toNat := fun c =>
    WordSum.toNat_sum _ _ ((hin c).trans_lt (by decide))
  rw [e, WordSum.toNat_sum]
  · rw [Finset.card_filter, Fintype.sum_prod_type, Finset.sum_comm]
    refine Finset.sum_congr rfl fun c _ => (hinv c).trans (Finset.sum_congr rfl fun k _ => (hb _).trans ?_)
    by_cases h : leftMax v0 x < ev (ix2 k c)
    · simp [h]
    · simp [h]
  · refine lt_of_le_of_lt (Finset.sum_le_sum fun c _ => (hinv c).le.trans (hin c)) ?_
    rw [Finset.sum_const, Finset.card_univ, Fintype.card_fin]
    decide

/-- A batch element's flag is zero or one, and one says that at least 100 collected scores exceed everything left. -/
theorem enough_apply (v0 : IVec S640x128 32) (x : Vec Ideal S640x128 .f32) (ev : Vec Ideal S104x128 .f32) :
    enough v0 x ev (ix2 0 0) = 0#32
      ∨ 100 ≤ ((Finset.univ : Finset (Fin 104 × Fin 128)).filter fun q => leftMax v0 x < ev (ix2 q.1 q.2)).card := by
  have e : enough v0 x ev (ix2 0 0) = BitVec.setWidth 32 (IntOp.cmpi CmpIPredicate.sge (k0_pay8 v0 x ev (ix2 0 0)) 100#32) := by
    unfold enough k0_pay9
    simp only [pointwise]
  have hc := count_apply v0 x ev
  have hle : ((Finset.univ : Finset (Fin 104 × Fin 128)).filter fun q => leftMax v0 x < ev (ix2 q.1 q.2)).card ≤ 13312 :=
    (Finset.card_le_univ _).trans (by rw [Fintype.card_prod, Fintype.card_fin, Fintype.card_fin])
  rw [e]
  by_cases h : (100#32 : BitVec 32).sle (k0_pay8 v0 x ev (ix2 0 0)) = true
  · right
    rw [BitVec.sle, decide_eq_true_eq, BitVec.toInt_eq_toNat_of_lt (x := k0_pay8 v0 x ev (ix2 0 0)) (by omega)] at h
    rw [← hc]
    have h100 : (100#32 : BitVec 32).toInt = 100 := rfl
    omega
  · left
    rw [Bool.not_eq_true] at h
    show BitVec.setWidth 32 (BitVec.ofBool ((100#32 : BitVec 32).sle (k0_pay8 v0 x ev (ix2 0 0)))) = 0#32
    rw [h]
    rfl

/-- The flag of a trip up: every batch element has enough. -/
theorem flag_apply (v0 : IVec S640x128 32) (X : Fin 8 → Vec Ideal S640x128 .f32) (s : ℕ) (h : flag v0 X s ≠ 0#32) (b : Fin 8) :
    okAt v0 (X b) s (ix2 0 0) ≠ 0#32 := by
  intro hb
  refine h ?_
  have e : flag v0 X s = okAt v0 (X 0) s (ix2 0 0) * okAt v0 (X 1) s (ix2 0 0) * okAt v0 (X 2) s (ix2 0 0) * okAt v0 (X 3) s (ix2 0 0)
      * okAt v0 (X 4) s (ix2 0 0) * okAt v0 (X 5) s (ix2 0 0) * okAt v0 (X 6) s (ix2 0 0) * okAt v0 (X 7) s (ix2 0 0) := by
    unfold flag
    simp only [pointwise]
    rfl
  have z : (0#32 : BitVec 32) = 0 := rfl
  rw [e]
  rw [z] at hb ⊢
  fin_cases b <;> simp only [Fin.mk_zero, Fin.mk_one, Fin.reduceFinMk, Fin.zero_eta, Fin.isValue] at hb <;> simp only [hb, mul_zero, zero_mul]

end Cert.KernelIdeal.Val
end
-- ==== Proof.Pieces.lean ====
/-
  Facts of plain shape and word arithmetic that both programs' results are read with: four columns set side by side, the
  `k` greatest of a row with their positions, quotient and remainder by 91 of a small word.
-/
module

public import Idealize.ShloMosaic.Lib.Pointwise
public import Idealize.ShloMosaic.Lib.SortPrefix
public import Idealize.ShloMosaic.Lib.Routing.Words
public import proofs.«01_k».proof.Proof.PeelStep

@[expose] public section

set_option maxRecDepth 16384

noncomputable section

namespace Cert.Pieces

open Idealize.ShloMosaic

/-- Four columns set side by side: column `k` of the result is the `k`-th of them. -/
theorem four_cols {α : Type} {n : ℕ} (X0 X1 X2 X3 : (⟨2, ![n, 1]⟩ : Shape).Idx → α)
    (h : Shape.Concatenates (([⟨⟨2, ![n, 1]⟩, X0⟩, ⟨⟨2, ![n, 1]⟩, X1⟩, ⟨⟨2, ![n, 1]⟩, X2⟩, ⟨⟨2, ![n, 1]⟩, X3⟩] :
      List ((s : Shape) × (s.Idx → α))).map (·.1)) ⟨2, ![n, 4]⟩ 1) (b : Fin n) (k : Fin 4) :
    concatenate ⟨2, ![n, 4]⟩ 1 [⟨⟨2, ![n, 1]⟩, X0⟩, ⟨⟨2, ![n, 1]⟩, X1⟩, ⟨⟨2, ![n, 1]⟩, X2⟩, ⟨⟨2, ![n, 1]⟩, X3⟩] h (ix2 b k)
      = (![X0, X1, X2, X3] k) (ix2 b 0) := by
  unfold concatenate
  fin_cases k
  · exact congrArg X0 (funext fun a => by fin_cases a <;> rfl)
  · exact congrArg X1 (funext fun a => by fin_cases a <;> rfl)
  · exact congrArg X2 (funext fun a => by fin_cases a <;> rfl)
  · exact congrArg X3 (funext fun a => by fin_cases a <;> rfl)

/-- The same with a leading axis. -/
theorem four_planes {α : Type} {m n : ℕ} (X0 X1 X2 X3 : (⟨3, ![m, n, 1]⟩ : Shape).Idx → α)
    (h : Shape.Concatenates (([⟨⟨3, ![m, n, 1]⟩, X0⟩, ⟨⟨3, ![m, n, 1]⟩, X1⟩, ⟨⟨3, ![m, n, 1]⟩, X2⟩, ⟨⟨3, ![m, n, 1]⟩, X3⟩] :
      List ((s : Shape) × (s.Idx → α))).map (·.1)) ⟨3, ![m, n, 4]⟩ 2) (b : Fin m) (q : Fin n) (k : Fin 4) :
    concatenate ⟨3, ![m, n, 4]⟩ 2 [⟨⟨3, ![m, n, 1]⟩, X0⟩, ⟨⟨3, ![m, n, 1]⟩, X1⟩, ⟨⟨3, ![m, n, 1]⟩, X2⟩, ⟨⟨3, ![m, n, 1]⟩, X3⟩] h (ix3 b q k)
      = (![X0, X1, X2, X3] k) (ix3 b q 0) := by
  unfold concatenate
  fin_cases k
  · exact congrArg X0 (funext fun a => by fin_cases a <;> rfl)
  · exact congrArg X1 (funext fun a => by fin_cases a <;> rfl)
  · exact congrArg X2 (funext fun a => by fin_cases a <;> rfl)
  · exact congrArg X3 (funext fun a => by fin_cases a <;> rfl)

/-- Position `p` of the row an index lies in. -/
def inRow {m n : ℕ} (J : (⟨2, ![m, n]⟩ : Shape).Idx) (p : Fin n) : (⟨2, ![m, n]⟩ : Shape).Idx :=
  J.along (⟨1, Nat.one_lt_two⟩ : Fin (⟨2, ![m, n]⟩ : Shape).rank) p

/-- It is the index with that row and that column. -/
theorem inRow_eq {m n : ℕ} (J : (⟨2, ![m, n]⟩ : Shape).Idx) (p : Fin n) : inRow J p = ix2 (J 0) p := by
  funext a
  fin_cases a <;> rfl

/-- The greatest `k` of each row, read at row `b`, place `i`: the row's entry at the position the stable sort by "greater
    first" puts at `i`, and that position. -/
theorem topK_read {α : Type} {m n k : ℕ} (hk : k ≤ n) (gt : α → α → BitVec 1) (x : (⟨2, ![m, n]⟩ : Shape).Idx → α)
    (h : (⟨2, ![m, n]⟩ : Shape).Slices (fun _ => 0) ⟨2, ![m, k]⟩) (b : Fin m) (i : Fin k) :
    (Host.topK ⟨2, ![m, k]⟩ 1 gt x h).1 (ix2 b i)
        = x (ix2 b (sortedFrom (fun p q => gt (x (ix2 b p)) (x (ix2 b q)) == 1#1) (i.castLE hk)))
    ∧ (Host.topK ⟨2, ![m, k]⟩ 1 gt x h).2 (ix2 b i)
        = BitVec.ofNat 32 (sortedFrom (fun p q => gt (x (ix2 b p)) (x (ix2 b q)) == 1#1) (i.castLE hk)).val := by
  have key : ∀ {β : Type} (y : (⟨2, ![m, n]⟩ : Shape).Idx → β) (J : (⟨2, ![m, n]⟩ : Shape).Idx) (l : Fin n), J 0 = b → l = i.castLE hk →
      y (inRow J (sortedFrom (fun p q => gt (x (inRow J p)) (x (inRow J q)) == 1#1) l))
        = y (ix2 b (sortedFrom (fun p q => gt (x (ix2 b p)) (x (ix2 b q)) == 1#1) (i.castLE hk))) := by
    intro β y J l h0 h1
    have e : ∀ p, inRow J p = ix2 b p := fun p => (inRow_eq J p).trans (congrArg (fun c => ix2 c p) h0)
    rw [e, h1]
    simp only [e]
  exact ⟨key x _ _ (Fin.ext (Nat.zero_add _)) (Fin.ext (Nat.zero_add _)),
    key (fun J => BitVec.ofNat 32 (J 1).val) _ _ (Fin.ext (Nat.zero_add _)) (Fin.ext (Nat.zero_add _))⟩

/-- A correction asked for only when a sign differs and a remainder is not zero is not made when either fails. -/
theorem no_fix (c d : BitVec 1) (x y : BitVec 32) (h : c = 0#1 ∨ d = 0#1) :
    Scalar.select (IntOp.andi c d) x y = y := by
  rcases h with rfl | rfl
  · rw [show IntOp.andi 0#1 d = 0#1 from by revert d; decide]; rfl
  · rw [show IntOp.andi c 0#1 = 0#1 from by revert c; decide]; rfl

/-- A small word as a signed integer. -/
theorem toInt_small (n : ℕ) (h : n < 2 ^ 31) : (BitVec.ofNat 32 n).toInt = (n : ℤ) := by
  have e : (BitVec.ofNat 32 n).toNat = n := by rw [BitVec.toNat_ofNat]; omega
  rw [BitVec.toInt_eq_toNat_of_lt (by omega), e]

/-- A small word is not negative. -/
theorem msb_small (n : ℕ) (h : n < 2 ^ 31) : (BitVec.ofNat 32 n).msb = false := by
  rw [BitVec.msb_eq_toInt, toInt_small n h]
  exact decide_eq_false (by omega)

/-- A positive small word is not zero. -/
theorem ofNat_ne_zero (n : ℕ) (h0 : 0 < n) (h : n < 2 ^ 31) : BitVec.ofNat 32 n ≠ 0 := fun e => by
  have := congrArg BitVec.toInt e
  rw [toInt_small n h, show (0 : BitVec 32).toInt = 0 from rfl] at this
  omega

/-- A small word compared with zero: not below it, -/
theorem slt_zero (n : ℕ) (h : n < 2 ^ 31) : IntOp.cmpi .slt (BitVec.ofNat 32 n) 0#32 = 0#1 := by
  show BitVec.ofBool (decide ((BitVec.ofNat 32 n).toInt < (0#32 : BitVec 32).toInt)) = _
  rw [toInt_small n h, show (0#32 : BitVec 32).toInt = 0 from rfl, decide_eq_false (by omega)]
  rfl

/-- above it when positive, -/
theorem sgt_zero (n : ℕ) (h0 : 0 < n) (h : n < 2 ^ 31) : IntOp.cmpi .sgt (BitVec.ofNat 32 n) 0#32 = 1#1 := by
  show BitVec.ofBool (decide ((0#32 : BitVec 32).toInt < (BitVec.ofNat 32 n).toInt)) = _
  rw [toInt_small n h, show (0#32 : BitVec 32).toInt = 0 from rfl, decide_eq_true (by omega)]
  rfl

/-- and at least it. -/
theorem sge_zero (n : ℕ) (h : n < 2 ^ 31) : IntOp.cmpi .sge (BitVec.ofNat 32 n) 0#32 = 1#1 := by
  show BitVec.ofBool (decide ((0#32 : BitVec 32).toInt ≤ (BitVec.ofNat 32 n).toInt)) = _
  rw [toInt_small n h, show (0#32 : BitVec 32).toInt = 0 from rfl, decide_eq_true (by omega)]
  rfl

/-- Small words compare as their numbers. -/
theorem sle_of_le (n k : ℕ) (h : n ≤ k) (hk : k < 2 ^ 31) : IntOp.cmpi .sle (BitVec.ofNat 32 n) (BitVec.ofNat 32 k) = 1#1 := by
  show BitVec.ofBool (decide ((BitVec.ofNat 32 n).toInt ≤ (BitVec.ofNat 32 k).toInt)) = _
  rw [toInt_small n (by omega), toInt_small k hk, decide_eq_true (by omega)]
  rfl

/-- The corner coordinate `k` of a box given by its centre and its extents. -/
def corner (B : Fin 4 → Ideal .f32) (k : Fin 4) : Ideal .f32 :=
  ![B 0 - Ideal.ofBits .f32 0x3F000000#32 * B 2, B 1 - Ideal.ofBits .f32 0x3F000000#32 * B 3,
    B 0 + Ideal.ofBits .f32 0x3F000000#32 * B 2, B 1 + Ideal.ofBits .f32 0x3F000000#32 * B 3] k

/-- The sigmoid keeps the order strictly, at the infinities too. -/
theorem logistic_strictMono : StrictMono Ideal.logistic := by
  have hpos : ∀ r : ℝ, 0 < 1 + Real.exp (-r) := fun r => by positivity
  intro x y hxy
  induction x using EReal.rec with
  | bot =>
    induction y using EReal.rec with
    | bot => exact absurd hxy (lt_irrefl _)
    | coe r =>
      rw [Ideal.logistic_bot, Ideal.logistic_coe]
      exact_mod_cast inv_pos.2 (hpos r)
    | top => rw [Ideal.logistic_bot, Ideal.logistic_top]; exact zero_lt_one
  | coe r =>
    induction y using EReal.rec with
    | bot => exact absurd hxy (not_lt_bot)
    | coe s =>
      rw [Ideal.logistic_coe, Ideal.logistic_coe]
      have h : r < s := by exact_mod_cast hxy
      have : (1 + Real.exp (-r))⁻¹ < (1 + Real.exp (-s))⁻¹ :=
        (inv_lt_inv₀ (hpos r) (hpos s)).2 (by have := Real.exp_lt_exp.2 (neg_lt_neg h); linarith)
      exact_mod_cast this
    | top =>
      rw [Ideal.logistic_coe, Ideal.logistic_top]
      have : (1 + Real.exp (-r))⁻¹ < 1 := inv_lt_one_of_one_lt₀ (by have := Real.exp_pos (-r); linarith)
      exact_mod_cast this
  | top => exact absurd hxy not_top_lt

end Cert.Pieces
end
-- ==== Proof.Inputs.lean ====
/-
  What the kernel's launch reads, as functions of the program's arguments: the padded class scores of each batch element,
  the padded boxes, and the scale of each image.
-/
module

public import proofs.«01_k».proof.Proof.ValRun
public import proofs.«01_k».proof.Proof.Pieces
public import Idealize.ShloMosaic.Lib.Pointwise
public import Idealize.ShloMosaic.Lib.StableHlo.RunRead
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.SL.Sem

variable (m : (ℓ : Loc nD τ sig) → Buf (Elt Ideal) ℓ)

/-- The last layer's class scores of batch `b`, query `p / 91`, class `p % 91`. -/
def logit (A : Vec Ideal S6x8x900x1100 .f32) (b : Fin 8) (p : ℕ) (h : p < 81900) : Ideal .f32 :=
  A (ix4 4 b ⟨p / 91, by omega⟩ ⟨1000 + p % 91, by omega⟩)

/-- The class scores laid out in rows of 128, padded. -/
def padded (A : Vec Ideal S6x8x900x1100 .f32) : Vec Ideal S8x640x128 .f32 :=
  shapeCast S8x640x128 (pad S8x81920 ![0, 0] ![0, 20] ![0, 0] (shapeCast S8x81900 (shapeCast S8x900x91
      (extractStridedSlice S1x8x900x91 ![4, 0, 0, 1000] A slices_S6x8x900x1100_S1x8x900x91_4_0_0_1000)
      shapeCasts_S1x8x900x91_S8x900x91) shapeCasts_S8x900x91_S8x81900)
    (constant (F := Ideal) S_ .f32 0xF149F2CA#32) pads_S8x81900_S8x81920_000_0200 h_S_) shapeCasts_S8x81920_S8x640x128

/-- The class scores laid out in one row, read at a position. -/
theorem flat_apply (A : Vec Ideal S6x8x900x1100 .f32) (b : Fin 8) (p : ℕ) (h : p < 81900) :
    shapeCast S8x81900 (shapeCast S8x900x91
      (extractStridedSlice S1x8x900x91 ![4, 0, 0, 1000] A slices_S6x8x900x1100_S1x8x900x91_4_0_0_1000)
      shapeCasts_S1x8x900x91_S8x900x91) shapeCasts_S8x900x91_S8x81900 (ix2 b ⟨p, h⟩) = logit A b p h := by
  simp only [pointwise, logit]
  congr 1 <;> simp

/-- A cell whose flat position is below 81900 holds the class score of that position, -/
theorem padded_in (A : Vec Ideal S6x8x900x1100 .f32) (b : Fin 8) (r : Fin 640) (c : Fin 128) (h : r.val * 128 + c.val < 81900) :
    padded A (ix3 b r c) = logit A b (r.val * 128 + c.val) h := by
  unfold padded
  rw [← flat_apply]
  generalize shapeCast S8x81900 _ _ = B
  simp only [pointwise]
  rw [dif_pos (fun a => by fin_cases a <;> [(have := b.isLt; simp; omega); (simp; omega)])]
  congr 1
  simp

/-- and every other cell the padding value. -/
theorem padded_out (A : Vec Ideal S6x8x900x1100 .f32) (b : Fin 8) (r : Fin 640) (c : Fin 128) (h : ¬ r.val * 128 + c.val < 81900) :
    padded A (ix3 b r c) = neg (F := Ideal) := by
  unfold padded
  generalize shapeCast S8x81900 _ _ = B
  simp only [pointwise]
  rw [dif_neg (fun hin => by have := (hin 1).2.2; simp at this; omega)]
  rfl

/-- Every window of the launch is at block zero. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0, 0] ∧ win0_9.index t = ![0, 0] :=
  (by decide +kernel : ∀ t : Fin grid0.N, _)

/-- One batch's plane of a table of eight. -/
theorem plane (b : Fin 8) (Y : Vec Ideal S8x640x128 .f32) (h : S8x640x128.Slices ![b.val, 0, 0] S1x640x128) (r : Fin 640) (l : Fin 128) :
    shapeCast S640x128 (extractStridedSlice S1x640x128 ![b.val, 0, 0] Y h) shapeCasts_S1x640x128_S640x128 (ix2 r l)
      = Y (ix3 b r l) := by
  simp only [pointwise]
  congr 1
  simp

set_option maxHeartbeats 2000000 in
/-- Window `b` of the launch holds batch `b`'s padded scores. -/
theorem block (c : Dev nD) (b : Fin 8) (r : Fin 640) (l : Fin 128) :
    blocks m c t0_0 b (ix2 r l) = padded (m (c, Proc.tc.devRef main_arg0)) (ix3 b r l) := by
  fin_cases b
  · refine Eq.trans (congrFun (show iblk m c 0 t0_0 = V m c main_v16 by blk_ext! [iblk, idx t0_0]) _) ?_
    unfold V V0
    after_reads_simp
    exact plane 0 (padded (m (c, Proc.tc.devRef main_arg0))) slices_S8x640x128_S1x640x128_0_0_0 r l
  · refine Eq.trans (congrFun (show iblk m c 1 t0_0 = V m c main_v18 by blk_ext! [iblk, idx t0_0]) _) ?_
    unfold V V0
    after_reads_simp
    exact plane 1 (padded (m (c, Proc.tc.devRef main_arg0))) slices_S8x640x128_S1x640x128_1_0_0 r l
  · refine Eq.trans (congrFun (show iblk m c 2 t0_0 = V m c main_v20 by blk_ext! [iblk, idx t0_0]) _) ?_
    unfold V V0
    after_reads_simp
    exact plane 2 (padded (m (c, Proc.tc.devRef main_arg0))) slices_S8x640x128_S1x640x128_2_0_0 r l
  · refine Eq.trans (congrFun (show iblk m c 3 t0_0 = V m c main_v22 by blk_ext! [iblk, idx t0_0]) _) ?_
    unfold V V0
    after_reads_simp
    exact plane 3 (padded (m (c, Proc.tc.devRef main_arg0))) slices_S8x640x128_S1x640x128_3_0_0 r l
  · refine Eq.trans (congrFun (show iblk m c 4 t0_0 = V m c main_v24 by blk_ext! [iblk, idx t0_0]) _) ?_
    unfold V V0
    after_reads_simp
    exact plane 4 (padded (m (c, Proc.tc.devRef main_arg0))) slices_S8x640x128_S1x640x128_4_0_0 r l
  · refine Eq.trans (congrFun (show iblk m c 5 t0_0 = V m c main_v26 by blk_ext! [iblk, idx t0_0]) _) ?_
    unfold V V0
    after_reads_simp
    exact plane 5 (padded (m (c, Proc.tc.devRef main_arg0))) slices_S8x640x128_S1x640x128_5_0_0 r l
  · refine Eq.trans (congrFun (show iblk m c 6 t0_0 = V m c main_v28 by blk_ext! [iblk, idx t0_0]) _) ?_
    unfold V V0
    after_reads_simp
    exact plane 6 (padded (m (c, Proc.tc.devRef main_arg0))) slices_S8x640x128_S1x640x128_6_0_0 r l
  · refine Eq.trans (congrFun (show iblk m c 7 t0_0 = V m c main_v30 by blk_ext! [iblk, idx t0_0]) _) ?_
    unfold V V0
    after_reads_simp
    exact plane 7 (padded (m (c, Proc.tc.devRef main_arg0))) slices_S8x640x128_S1x640x128_7_0_0 r l

/-- The box window holds the boxes, padded with 124 rows of zeros. -/
theorem boxes (c : Dev nD) : iblk m c 8 t0_0 = pad S8x1024x4 ![0, 0, 0] ![0, 124, 0] ![0, 0, 0] (m (c, Proc.tc.devRef main_arg1) : Vec Ideal S8x900x4 .f32)
      (sitofp (F := Ideal) .f32 (constantI S_ 32 0#32)) pads_S8x900x4_S8x1024x4_000_01240_000 h_S_ := by
  refine Eq.trans (b := V m c main_v5) (by blk_ext! [iblk, idx t0_0]) ?_
  unfold V V0
  after_reads_simp
  rfl

/-- A column of the image sizes. -/
theorem column_apply (C : Vec Ideal S8x2 .f32) (k : Fin 2) (h : S8x2.Slices ![0, k.val] S8x1) (b : Fin 8) :
    broadcastInDim S8x1 ![0] bcast_S8_S8x1_0 (shapeCast S8 (extractStridedSlice S8x1 ![0, k.val] C h) shapeCasts_S8x1_S8) (ix2 b 0)
      = C (ix2 b k) := by
  fin_cases k <;> (simp only [pointwise]; congr 1 <;> simp)

/-- The scale window holds width, height, width, height. -/
theorem scale (c : Dev nD) (b : Fin 8) (k : Fin 4) : iblk m c 9 t0_0 (ix2 b k) = m (c, Proc.tc.devRef main_arg2) (ix2 b (![1, 0, 1, 0] k)) := by
  have e : iblk m c 9 t0_0 = V m c main_v14 := by blk_ext! [iblk, idx t0_0]
  rw [e]
  unfold V V0
  after_reads_simp
  dsimp only [Matrix.cons_val]
  after_reads_simp
  refine (Cert.Pieces.four_cols _ _ _ _ _ b k).trans ?_
  fin_cases k
  · exact column_apply (m (c, Proc.tc.devRef main_arg2)) 1 slices_S8x2_S8x1_0_1 b
  · exact column_apply (m (c, Proc.tc.devRef main_arg2)) 0 slices_S8x2_S8x1_0_0 b
  · exact column_apply (m (c, Proc.tc.devRef main_arg2)) 1 slices_S8x2_S8x1_0_1 b
  · exact column_apply (m (c, Proc.tc.devRef main_arg2)) 0 slices_S8x2_S8x1_0_0 b

end Cert.KernelIdeal.Val
end
-- ==== Proof.Precond.lean ====
/-
  The precondition: its side conditions, and what it says of the class scores.
-/
module

public import proofs.«01_k».proof.Pre_scores_above_padding
public import proofs.«01_k».proof.Proof.Inputs
public import Idealize.ShloMosaic.Lib.Decide

@[expose] public section

set_option maxRecDepth 16384

namespace Cert.Pre_scores_above_padding

open Idealize.ShloMosaic

instance facts : Facts where
  slices_S6x8x900x1100_S1x8x900x91_4_0_0_1000 := by decide
  shapeCasts_S1x8x900x91_S8x900x91 := by decide
  bcast_S_S8x900x91 := by decide
  reducesTo_S8x900x91_S_d0_1_2 := by decide
  h_S_ := by decide

/-- A conjunction of bits that is 1 has every bit 1. -/
theorem fold_and {ι : Type} [DecidableEq ι] (s : Finset ι) (f : ι → BitVec 1) (h : Finset.fold IntOp.andi 1#1 f s = 1#1) :
    ∀ k ∈ s, f k = 1#1 := by
  induction s using Finset.induction_on with
  | empty => intro k hk; exact absurd hk (Finset.notMem_empty k)
  | insert a s ha ih =>
    rw [Finset.fold_insert ha] at h
    have hb : ∀ x y : BitVec 1, IntOp.andi x y = 1#1 → x = 1#1 ∧ y = 1#1 := by decide
    obtain ⟨h1, h2⟩ := hb _ _ h
    intro k hk
    rcases Finset.mem_insert.1 hk with rfl | hk
    · exact h1
    · exact ih h2 k hk

/-- Every class score exceeds the padding value. -/
theorem above (A : FVec Ideal S6x8x900x1100 .f32) (B : FVec Ideal S8x900x4 .f32) (C : FVec Ideal S8x2 .f32)
    (h : fn (F := Ideal) A B C = constantI S_ 1 1#1) (b : Fin 8) (p : ℕ) (hp : p < 81900) :
    Cert.KernelIdeal.Val.neg (F := Ideal) < Cert.KernelIdeal.Val.logit A b p hp := by
  have h0 := congrFun h ix0
  unfold fn at h0
  simp only [pointwise] at h0
  have hk := fold_and _ _ h0 (b, (⟨p / 91, by omega⟩ : Fin 900), (⟨p % 91, by omega⟩ : Fin 91)) (Finset.mem_univ _)
  have hb : ∀ x : Bool, BitVec.ofBool x = 1#1 → x = true := by decide
  have hlt := of_decide_eq_true (hb _ hk)
  refine lt_of_lt_of_eq hlt ?_
  unfold Cert.KernelIdeal.Val.logit
  congr 1
  congr 1 <;> simp

end Cert.Pre_scores_above_padding
-- ==== Proof.Order.lean ====
/-
  The order in which scores are taken, and what two greedy procedures take under it: one that removes the first score of
  every column at each trip, and one that takes the first of the collected scores round by round.
-/
module

public import Mathlib.Data.EReal.Basic
public import Mathlib.Data.Fintype.Prod
public import Mathlib.Data.Fintype.Card
public import Mathlib.Data.Finset.Card

@[expose] public section

namespace Cert.Top

/-- The score `k` at position `p` comes before the score `k'` at position `p'`: it is larger, or equal and at an earlier
    position. -/
def Bef (k : EReal) (p : ℕ) (k' : EReal) (p' : ℕ) : Prop := k' < k ∨ (k = k' ∧ p < p')

/-- The order is transitive. -/
theorem Bef.trans {k k' k'' : EReal} {p p' p'' : ℕ} (h : Bef k p k' p') (h' : Bef k' p' k'' p'') : Bef k p k'' p'' := by
  rcases h with h | ⟨h, hp⟩ <;> rcases h' with h' | ⟨h', hp'⟩
  · exact .inl (h'.trans h)
  · exact .inl (h' ▸ h)
  · exact .inl (h ▸ h')
  · exact .inr ⟨h.trans h', hp.trans hp'⟩

/-- A first score is not after another. -/
theorem Bef.asymm {k k' : EReal} {p p' : ℕ} (h : Bef k p k' p') : ¬ Bef k' p' k p := by
  rintro (h' | ⟨h', hp'⟩) <;> rcases h with h | ⟨h, hp⟩
  · exact lt_asymm h h'
  · exact absurd h' (h ▸ lt_irrefl _)
  · exact absurd h (h' ▸ lt_irrefl _)
  · exact Nat.lt_asymm hp hp'

/-! ## Taking the first of each column -/

section Peel

variable {R : ℕ} {C : Type} (K : Fin R → C → EReal) (neg : EReal) (ar : ℕ → C → Fin R)

/-- After `s` trips: the rows taken from a column are scores above the padding value, all different, and come before every
    row left. -/
structure Peeled (s : ℕ) : Prop where
  real : ∀ t < s, ∀ c, neg < K (ar t c) c
  inj : ∀ c, ∀ t < s, ∀ t' < s, ar t c = ar t' c → t = t'
  first : ∀ c r, (∀ t < s, ar t c ≠ r) → ∀ t < s, Bef (K (ar t c) c) (ar t c).val (K r c) r.val

/-- Before the first trip nothing was taken. -/
theorem Peeled.zero : Peeled K neg ar 0 := ⟨fun _ h => absurd h (Nat.not_lt_zero _), fun _ _ h => absurd h (Nat.not_lt_zero _), fun _ _ _ _ h => absurd h (Nat.not_lt_zero _)⟩

/-- Some row above the padding value is left while fewer rows were taken than there are such rows. -/
theorem exists_left (s m : ℕ) (hs : s < m) (hm : m ≤ R) (c : C) : ∃ r : Fin R, r.val < m ∧ ∀ t < s, ar t c ≠ r := by
  classical
  by_contra hcon
  push Not at hcon
  have h1 : ((Finset.univ : Finset (Fin m)).image fun r : Fin m => r.castLE hm) ⊆ (Finset.range s).image fun t => ar t c := by
    intro r hr
    obtain ⟨r', -, rfl⟩ := Finset.mem_image.1 hr
    obtain ⟨t, ht, e⟩ := hcon (r'.castLE hm) r'.isLt
    exact Finset.mem_image.2 ⟨t, Finset.mem_range.2 ht, e⟩
  have h2 := Finset.card_le_card h1
  rw [Finset.card_image_of_injective _ (Fin.castLE_injective hm), Finset.card_univ, Fintype.card_fin] at h2
  have h3 := (Finset.card_image_le (s := Finset.range s) (f := fun t => ar t c))
  rw [Finset.card_range] at h3
  omega

/-- One more trip. -/
theorem Peeled.succ {s m : ℕ} (hs : s < m) (hm : m ≤ R) (hK : ∀ r c, r.val < m → neg < K r c) (x : Fin R → C → EReal)
    (hx : ∀ r c, x r c = open Classical in if ∃ t < s, ar t c = r then neg else K r c)
    (hmax : ∀ r c, x r c ≤ x (ar s c) c) (hmin : ∀ r c, x r c = x (ar s c) c → ar s c ≤ r) (h : Peeled K neg ar s) :
    Peeled K neg ar (s + 1) ∧ (∀ c, x (ar s c) c = K (ar s c) c)
      ∧ ∀ r c, (open Classical in if ar s c = r then neg else x r c) = open Classical in if ∃ t < s + 1, ar t c = r then neg else K r c := by
  classical
  have habove : ∀ c, neg < x (ar s c) c := fun c => by
    obtain ⟨r, hr, hn⟩ := exists_left ar s m hs hm c
    have e : x r c = K r c := by rw [hx, if_neg (fun ⟨t, ht, e⟩ => hn t ht e)]
    exact lt_of_lt_of_le (e ▸ hK r c hr) (hmax r c)
  have hnew : ∀ c, ¬ ∃ t < s, ar t c = ar s c := fun c hc => by
    have := habove c
    rw [hx, if_pos hc] at this
    exact lt_irrefl _ this
  have hval : ∀ c, x (ar s c) c = K (ar s c) c := fun c => by rw [hx, if_neg (hnew c)]
  refine ⟨⟨?_, ?_, ?_⟩, hval, ?_⟩
  · intro t ht c
    rcases Nat.lt_succ_iff_lt_or_eq.1 ht with ht | rfl
    · exact h.real t ht c
    · exact hval c ▸ habove c
  · intro c t ht t' ht' e
    rcases Nat.lt_succ_iff_lt_or_eq.1 ht with ht | rfl <;> rcases Nat.lt_succ_iff_lt_or_eq.1 ht' with ht' | rfl
    · exact h.inj c t ht t' ht' e
    · exact absurd ⟨t, ht, e⟩ (hnew c)
    · exact absurd ⟨t', ht', e.symm⟩ (hnew c)
    · rfl
  · intro c r hr t ht
    rcases Nat.lt_succ_iff_lt_or_eq.1 ht with ht | rfl
    · exact h.first c r (fun t' ht' => hr t' (ht'.trans (Nat.lt_succ_self s))) t ht
    · have hxr : x r c = K r c := by
        rw [hx, if_neg]
        rintro ⟨t', ht', e⟩
        exact hr t' (ht'.trans (Nat.lt_succ_self _)) e
      rcases lt_or_eq_of_le (hmax r c) with hlt | heq
      · exact .inl (by rw [← hval c, ← hxr]; exact hlt)
      · refine .inr ⟨by rw [← hval c, ← hxr, heq], ?_⟩
        exact lt_of_le_of_ne (hmin r c heq) (fun e => hr _ (Nat.lt_succ_self _) (Fin.ext e))
  · intro r c
    by_cases e : ar s c = r
    · rw [if_pos e, if_pos ⟨s, Nat.lt_succ_self s, e⟩]
    · rw [if_neg e, hx]
      refine if_congr ⟨fun ⟨t, ht, e'⟩ => ⟨t, ht.trans (Nat.lt_succ_self s), e'⟩, fun ⟨t, ht, e'⟩ => ?_⟩ rfl rfl
      rcases Nat.lt_succ_iff_lt_or_eq.1 ht with ht | rfl
      · exact ⟨t, ht, e'⟩
      · exact absurd e' e

end Peel

/-! ## Taking the first of the collected -/

section Select

variable {ι : Type} [DecidableEq ι] (e : ℕ → ι → EReal) (σ : ℕ → ι) (p : ι → ℕ) (neg : EReal) (live : Finset ι) (k : ι → EReal)

/-- What the rounds take: each a live cell not taken before, with its score, first among the live cells not taken before. -/
theorem select_first (m : ℕ) (h0 : ∀ q, e 0 q = if q ∈ live then k q else neg) (hk : ∀ q ∈ live, neg < k q)
    (hp : ∀ q ∈ live, ∀ q' ∈ live, p q = p q' → q = q')
    (hmax : ∀ i q, e i q ≤ e i (σ i)) (hmin : ∀ i q, e i q = e i (σ i) → p (σ i) ≤ p q)
    (hnext : ∀ i q, e (i + 1) q = if e i q = e i (σ i) ∧ p q = p (σ i) then neg else e i q)
    (hcard : m ≤ live.card) :
    ∀ i < m, e i (σ i) = k (σ i) ∧ σ i ∈ live ∧ (∀ j < i, σ j ≠ σ i) ∧ ∀ q ∈ live, (∀ j < i, σ j ≠ q) → q = σ i ∨ Bef (k (σ i)) (p (σ i)) (k q) (p q) := by
  classical
  have step : ∀ i < m, (∀ q, e i q = if q ∈ live ∧ ∀ j < i, σ j ≠ q then k q else neg) →
      e i (σ i) = k (σ i) ∧ σ i ∈ live ∧ (∀ j < i, σ j ≠ σ i) := by
    intro i hi hei
    have hex : ∃ q ∈ live, ∀ j < i, σ j ≠ q := by
      by_contra hcon
      push Not at hcon
      have h1 : live ⊆ (Finset.range i).image σ := fun q hq => by
        obtain ⟨j, hj, e⟩ := hcon q hq
        exact Finset.mem_image.2 ⟨j, Finset.mem_range.2 hj, e⟩
      have h2 := Finset.card_le_card h1
      have h3 := (Finset.card_image_le (s := Finset.range i) (f := σ))
      rw [Finset.card_range] at h3
      omega
    obtain ⟨q, hq, hn⟩ := hex
    have hab : neg < e i (σ i) := lt_of_lt_of_le (by rw [hei q, if_pos ⟨hq, hn⟩]; exact hk q hq) (hmax i q)
    have hc : σ i ∈ live ∧ ∀ j < i, σ j ≠ σ i := by
      by_contra hc
      rw [hei, if_neg hc] at hab
      exact lt_irrefl _ hab
    exact ⟨by rw [hei, if_pos hc], hc⟩
  have inv : ∀ i ≤ m, ∀ q, e i q = if q ∈ live ∧ ∀ j < i, σ j ≠ q then k q else neg := by
    intro i
    induction i with
    | zero =>
      intro _ q
      rw [h0]
      exact if_congr ⟨fun h => ⟨h, fun j hj => absurd hj (Nat.not_lt_zero j)⟩, fun h => h.1⟩ rfl rfl
    | succ i ih =>
      intro hi q
      have hei := ih (Nat.le_of_succ_le hi)
      obtain ⟨h1, h2, h3⟩ := step i hi hei
      rw [hnext]
      by_cases hq : q = σ i
      · subst hq
        rw [if_pos ⟨rfl, rfl⟩, if_neg fun h => h.2 i (Nat.lt_succ_self i) rfl]
      · rw [if_neg, hei]
        · refine if_congr (and_congr_right fun _ => ⟨fun h j hj => ?_, fun h j hj => h j (hj.trans (Nat.lt_succ_self i))⟩) rfl rfl
          rcases Nat.lt_succ_iff_lt_or_eq.1 hj with hj | rfl
          · exact h j hj
          · exact fun e => hq e.symm
        · rintro ⟨ha, hb⟩
          have hl : q ∈ live := by
            by_contra hl
            rw [hei q, if_neg (fun h => hl h.1), h1] at ha
            exact absurd (hk _ h2) (ha ▸ lt_irrefl _)
          exact hq (hp q hl _ h2 hb)
  intro i hi
  have hei := inv i hi.le
  obtain ⟨h1, h2, h3⟩ := step i hi hei
  refine ⟨h1, h2, h3, fun q hq hn => ?_⟩
  by_cases hqi : q = σ i
  · exact .inl hqi
  · refine .inr ?_
    have hq' : e i q = k q := by rw [hei, if_pos ⟨hq, hn⟩]
    rcases lt_or_eq_of_le (hmax i q) with hlt | heq
    · exact .inl (by rw [← h1, ← hq']; exact hlt)
    · refine .inr ⟨by rw [← h1, ← hq', heq], lt_of_le_of_ne (hmin i q heq) fun e => hqi (hp q hq _ h2 e.symm)⟩

/-- A score that `m` live cells come before, or that is a live cell never taken, comes after everything taken. -/
theorem select_dom (m : ℕ)
    (hsel : ∀ i < m, σ i ∈ live ∧ ∀ q ∈ live, (∀ j < i, σ j ≠ q) → q = σ i ∨ Bef (k (σ i)) (p (σ i)) (k q) (p q))
    (k' : EReal) (p' : ℕ) (T : Finset ι) (hT : T ⊆ live) (hc : m ≤ T.card) (hb : ∀ q ∈ T, Bef (k q) (p q) k' p') (i : ℕ) (hi : i < m) :
    Bef (k (σ i)) (p (σ i)) k' p' := by
  have hex : ∃ q ∈ T, ∀ j < i, σ j ≠ q := by
    by_contra hcon
    push Not at hcon
    have h1 : T ⊆ (Finset.range i).image σ := fun q hq => by
      obtain ⟨j, hj, e⟩ := hcon q hq
      exact Finset.mem_image.2 ⟨j, Finset.mem_range.2 hj, e⟩
    have h2 := Finset.card_le_card h1
    have h3 := (Finset.card_image_le (s := Finset.range i) (f := σ))
    rw [Finset.card_range] at h3
    omega
  obtain ⟨q, hq, hn⟩ := hex
  rcases (hsel i hi).2 q (hT hq) hn with rfl | h
  · exact hb _ hq
  · exact h.trans (hb q hq)

end Select

end Cert.Top
end
-- ==== Proof.SelectStep.lean ====
/-
  One selection round at exact numbers: among the collected scores the largest is taken, of equal ones the one with the
  smallest flat position, and the padding value is left in its place; and the lane a round fills.
-/
module

public import proofs.«01_k».proof.Proof.PeelStep

@[expose] public section

set_option maxRecDepth 16384

noncomputable section

namespace Cert.KernelIdeal.Val

open Cert.KernelIdeal Cert.KernelIdeal.Gen
open Idealize.ShloMosaic

section Sel

variable {h : ℕ} (hs : Sides h)

/-- The greatest collected score of a round, -/
theorem selMax_apply (ev : FVec Ideal (rowsShape h) .f32) :
    selMax hs ev (ix2 0 0) = (Finset.univ : Finset (Fin 128)).fold max ⊥ fun c => (Finset.univ : Finset (Fin h)).fold max ⊥ fun k => ev (ix2 k c) := by
  unfold selMax
  simp only [pointwise, start_bot]

/-- the cells that hold it, -/
theorem selHit_apply (ev : FVec Ideal (rowsShape h) .f32) (i : Fin h) (c : Fin 128) :
    selHit hs ev (ix2 i c) = BitVec.ofBool (decide (ev (ix2 i c) = selMax hs ev (ix2 0 0))) := by
  unfold selHit
  simp only [pointwise, start_bot]
  rfl

/-- the least position among them, -/
theorem selPos_apply (ei : IVec (rowsShape h) 32) (ev : FVec Ideal (rowsShape h) .f32) :
    selPos hs ei ev (ix2 0 0) = (Finset.univ : Finset (Fin 128)).fold IntOp.minsi 2147483647#32 fun c =>
      (Finset.univ : Finset (Fin h)).fold IntOp.minsi 2147483647#32 fun k =>
        if ev (ix2 k c) = selMax hs ev (ix2 0 0) then ei (ix2 k c) else 1073741824#32 := by
  unfold selPos
  simp only [pointwise, start_bot, selHit_apply]

/-- and what the round leaves in a cell. -/
theorem selNext_apply (ei : IVec (rowsShape h) 32) (ev : FVec Ideal (rowsShape h) .f32) (i : Fin h) (c : Fin 128) :
    selNext hs ei ev (ix2 i c) = if ev (ix2 i c) = selMax hs ev (ix2 0 0) ∧ ei (ix2 i c) = selPos hs ei ev (ix2 0 0) then neg (F := Ideal) else ev (ix2 i c) := by
  have e : selNext hs ei ev (ix2 i c) = Scalar.select (IntOp.andi (selHit hs ev (ix2 i c)) (IntOp.cmpi .eq (ei (ix2 i c)) (selPos hs ei ev (ix2 0 0))))
      (neg (F := Ideal)) (ev (ix2 i c)) := by
    unfold selNext
    simp only [pointwise, start_bot]
    rfl
  rw [e, selHit_apply]
  by_cases hh : ev (ix2 i c) = selMax hs ev (ix2 0 0)
  · rw [decide_eq_true hh]
    have e1 : ∀ w : BitVec 1, IntOp.andi (BitVec.ofBool true) w = w := by decide
    rw [e1, select_eq]
    exact if_congr ⟨fun h' => ⟨hh, h'⟩, fun h' => h'.2⟩ rfl rfl
  · rw [decide_eq_false hh, if_neg fun h' => hh h'.1]
    have e1 : ∀ w : BitVec 1, IntOp.andi (BitVec.ofBool false) w = 0#1 := by decide
    rw [e1]
    rfl

/-- A row with one lane set, read. -/
theorem setLane_apply {α : Type} (v1 : IVec S1x128 32) (w : BitVec 32) (m : S1x1.Idx → α) (a : S1x128.Idx → α) (c : Fin 128) :
    setLane v1 w m a (ix2 0 c) = if v1 (ix2 0 c) = w then m (ix2 0 0) else a (ix2 0 c) := by
  have e : setLane v1 w m a (ix2 0 c) = Scalar.select (IntOp.cmpi .eq (v1 (ix2 0 c)) w) (m (ix2 0 0)) (a (ix2 0 c)) := by
    unfold setLane
    simp only [pointwise]
    rfl
  rw [e, select_eq]

/-- One round. -/
theorem select_step (hh : 0 < h) (ei : IVec (rowsShape h) 32) (ev : FVec Ideal (rowsShape h) .f32) (hei : ∀ i c, (ei (ix2 i c)).toNat < 2 ^ 30) :
    ∃ q : Fin h × Fin 128, (∀ q' : Fin h × Fin 128, ev (ix2 q'.1 q'.2) ≤ ev (ix2 q.1 q.2))
      ∧ (∀ q' : Fin h × Fin 128, ev (ix2 q'.1 q'.2) = ev (ix2 q.1 q.2) → (ei (ix2 q.1 q.2)).toNat ≤ (ei (ix2 q'.1 q'.2)).toNat)
      ∧ selMax hs ev (ix2 0 0) = ev (ix2 q.1 q.2) ∧ selPos hs ei ev (ix2 0 0) = ei (ix2 q.1 q.2)
      ∧ ∀ q' : Fin h × Fin 128, selNext hs ei ev (ix2 q'.1 q'.2)
        = if ev (ix2 q'.1 q'.2) = ev (ix2 q.1 q.2) ∧ (ei (ix2 q'.1 q'.2)).toNat = (ei (ix2 q.1 q.2)).toNat then neg (F := Ideal) else ev (ix2 q'.1 q'.2) := by
  haveI : Nonempty (Fin h) := ⟨⟨0, hh⟩⟩
  have hM : (∃ q : Fin h × Fin 128, selMax hs ev (ix2 0 0) = ev (ix2 q.1 q.2)) ∧ ∀ q : Fin h × Fin 128, ev (ix2 q.1 q.2) ≤ selMax hs ev (ix2 0 0) := by
    rw [selMax_apply]
    obtain ⟨⟨c, hc⟩, h2⟩ := fold_max_spec fun c : Fin 128 => (Finset.univ : Finset (Fin h)).fold max ⊥ fun k => ev (ix2 k c)
    obtain ⟨⟨k, hk⟩, h3⟩ := fold_max_spec fun k : Fin h => ev (ix2 k c)
    exact ⟨⟨(k, c), hc.trans hk⟩, fun q => ((fold_max_spec fun k : Fin h => ev (ix2 k q.2)).2 q.1).trans (h2 q.2)⟩
  generalize hm : selMax hs ev (ix2 0 0) = m at hM
  have hlt : ∀ (k : Fin h) (c : Fin 128), (if ev (ix2 k c) = m then ei (ix2 k c) else 1073741824#32).toNat < 2 ^ 31 := fun k c => by
    split
    · have := hei k c; omega
    · decide
  have hP : (∃ q : Fin h × Fin 128, selPos hs ei ev (ix2 0 0) = if ev (ix2 q.1 q.2) = m then ei (ix2 q.1 q.2) else 1073741824#32)
      ∧ ∀ q : Fin h × Fin 128, (selPos hs ei ev (ix2 0 0)).toNat ≤ (if ev (ix2 q.1 q.2) = m then ei (ix2 q.1 q.2) else 1073741824#32).toNat := by
    rw [selPos_apply, hm]
    have hin : ∀ c : Fin 128, ((Finset.univ : Finset (Fin h)).fold IntOp.minsi 2147483647#32 fun k =>
        if ev (ix2 k c) = m then ei (ix2 k c) else 1073741824#32).toNat < 2 ^ 31 := fun c => by
      obtain ⟨⟨k, hk⟩, -⟩ := fold_min_spec (fun k : Fin h => if ev (ix2 k c) = m then ei (ix2 k c) else 1073741824#32) fun k => hlt k c
      rw [hk]
      exact hlt k c
    obtain ⟨⟨c, hc⟩, h2⟩ := fold_min_spec (fun c : Fin 128 => (Finset.univ : Finset (Fin h)).fold IntOp.minsi 2147483647#32 fun k =>
      if ev (ix2 k c) = m then ei (ix2 k c) else 1073741824#32) hin
    obtain ⟨⟨k, hk⟩, h3⟩ := fold_min_spec (fun k : Fin h => if ev (ix2 k c) = m then ei (ix2 k c) else 1073741824#32) fun k => hlt k c
    exact ⟨⟨(k, c), hc.trans hk⟩, fun q => (h2 q.2).trans
      ((fold_min_spec (fun k : Fin h => if ev (ix2 k q.2) = m then ei (ix2 k q.2) else 1073741824#32) fun k => hlt k q.2).2 q.1)⟩
  obtain ⟨⟨q0, hq0⟩, hmax⟩ := hM
  obtain ⟨⟨q, hq⟩, hmin⟩ := hP
  have hbig : (1073741824#32 : BitVec 32).toNat = 1073741824 := rfl
  have hqm : ev (ix2 q.1 q.2) = m := by
    by_contra hne
    rw [if_neg hne] at hq
    have h1 := hmin q0
    rw [if_pos hq0.symm, hq, hbig] at h1
    have := hei q0.1 q0.2
    omega
  rw [if_pos hqm] at hq
  refine ⟨q, fun q' => hqm ▸ hmax q', fun q' hq' => ?_, hqm.symm, hq, fun q' => ?_⟩
  · have h1 := hmin q'
    rw [if_pos (hq'.trans hqm), hq] at h1
    exact h1
  · rw [selNext_apply, hm, hq, hqm]
    exact if_congr (and_congr_right fun _ => BitVec.toNat_inj.symm) rfl rfl

/-- What the lanes hold after the rounds: lane `i` the score and the position selected in round `i`. -/
theorem selS_apply (ei : IVec (rowsShape h) 32) (ev : FVec Ideal (rowsShape h) .f32) (i : Fin 128) :
    ∀ N : ℕ, N ≤ 128 → i.val < N → selS hs lanes ei ev N (ix2 0 i) = selMax hs (selEv hs ei ev i.val) (ix2 0 0)
      ∧ selF hs lanes ei ev N (ix2 0 i) = selPos hs ei (selEv hs ei ev i.val) (ix2 0 0)
  | 0, _, hi => absurd hi (Nat.not_lt_zero _)
  | N + 1, hN, hi => by
    have hw : lanes (ix2 0 i) = BitVec.ofNat 32 N ↔ i.val = N := by
      rw [lanes_apply]
      refine ⟨fun h' => ?_, fun h' => by rw [h']⟩
      have := congrArg BitVec.toNat h'
      rw [BitVec.toNat_ofNat, BitVec.toNat_ofNat] at this
      have := i.isLt
      omega
    rw [selS, selF, setLane_apply, setLane_apply]
    by_cases hc : i.val = N
    · rw [if_pos (hw.2 hc), if_pos (hw.2 hc), hc]
      exact ⟨rfl, rfl⟩
    · rw [if_neg (mt hw.1 hc), if_neg (mt hw.1 hc)]
      exact selS_apply ei ev i N (by omega) (by omega)

end Sel
end Cert.KernelIdeal.Val
end
-- ==== Proof.Batch.lean ====
/-
  What one batch element's rows hold at exact numbers, when every score outside the last row exceeds the padding value:
  lane `i` of the selected rows holds the `i`-th of the cells in the order "larger score first, of equal scores the smaller
  flat position first", and no other cell comes before it.
-/
module

public import proofs.«01_k».proof.Proof.Order
public import proofs.«01_k».proof.Proof.SelectStep

@[expose] public section

set_option maxRecDepth 16384

noncomputable section

namespace Cert.KernelIdeal.Val

open Cert.KernelIdeal Cert.KernelIdeal.Gen Cert.Top
open Idealize.ShloMosaic

/-- A cell of a batch element's scores. -/
abbrev Cell : Type := Fin 640 × Fin 128

/-- Its flat position. -/
def pos (q : Cell) : ℕ := q.1.val * 128 + q.2.val

/-- Flat positions are below 640 · 128. -/
theorem pos_lt (q : Cell) : pos q < 81920 := by
  have := q.1.isLt
  have := q.2.isLt
  unfold pos
  omega

/-- Different cells have different flat positions. -/
theorem pos_inj {q q' : Cell} (h : pos q = pos q') : q = q' := by
  have := q.2.isLt
  have := q'.2.isLt
  unfold pos at h
  exact Prod.ext (Fin.ext (by omega)) (Fin.ext (by omega))

/-- The row a trip takes from column `c` of `x`. -/
def firstMax (x : Vec Ideal S640x128 .f32) (c : Fin 128) : Fin 640 := (peel_step x c).choose

/-- That row holds the greatest entry of the column, is the first that does, and is what the trip records and removes. -/
theorem firstMax_spec (x : Vec Ideal S640x128 .f32) (c : Fin 128) :
    (∀ r', x (ix2 r' c) ≤ x (ix2 (firstMax x c) c)) ∧ (∀ r', x (ix2 r' c) = x (ix2 (firstMax x c) c) → firstMax x c ≤ r')
      ∧ colMax x (ix2 0 c) = x (ix2 (firstMax x c) c) ∧ colPos rows640 lanes x (ix2 0 c) = BitVec.ofNat 32 ((firstMax x c).val * 128 + c.val)
      ∧ ∀ r', peelNext rows640 x (ix2 r' c) = if firstMax x c = r' then neg (F := Ideal) else x (ix2 r' c) := (peel_step x c).choose_spec

section One

variable (x : Vec Ideal S640x128 .f32)

/-- The row trip `s` takes from column `c`. -/
def taken (s : ℕ) (c : Fin 128) : Fin 640 := firstMax (peelX rows640 x s) c

/-- The scores by row and column. -/
abbrev score (r : Fin 640) (c : Fin 128) : EReal := x (ix2 r c)

variable (hx : ∀ (r : Fin 640) (c : Fin 128), r.val < 639 → neg (F := Ideal) < x (ix2 r c))
include hx

/-- The trips take the first cells of every column, and what is left is the rest. -/
theorem peeled : ∀ s : ℕ, s ≤ 100 → Peeled (score x) (neg (F := Ideal)) (taken x) s
    ∧ ∀ r c, peelX rows640 x s (ix2 r c) = open Classical in if ∃ t < s, taken x t c = r then neg (F := Ideal) else x (ix2 r c)
  | 0, _ => ⟨Peeled.zero _ _ _, fun r c => (if_neg fun ⟨t, ht, _⟩ => absurd ht (Nat.not_lt_zero t)).symm⟩
  | s + 1, hs => by
    obtain ⟨hP, hX⟩ := peeled s (by omega)
    obtain ⟨h1, h2, h3⟩ := Peeled.succ (score x) (neg (F := Ideal)) (taken x) (m := 639) (by omega) (by omega) (fun r c h => hx r c h)
      (fun r c => peelX rows640 x s (ix2 r c)) hX (fun r c => (firstMax_spec _ c).1 r) (fun r c => (firstMax_spec _ c).2.1 r) hP
    exact ⟨h1, fun r c => ((firstMax_spec (peelX rows640 x s) c).2.2.2.2 r).trans (h3 r c)⟩

/-- What trip `s` records of a column is the score of the row it takes. -/
theorem colMax_taken (s : ℕ) (hs : s < 100) (c : Fin 128) : colMax (peelX rows640 x s) (ix2 0 c) = x (ix2 (taken x s c) c) := by
  obtain ⟨hP, hX⟩ := peeled x hx s (by omega)
  obtain ⟨h1, h2, h3⟩ := Peeled.succ (score x) (neg (F := Ideal)) (taken x) (m := 639) (by omega) (by omega) (fun r c h => hx r c h)
    (fun r c => peelX rows640 x s (ix2 r c)) hX (fun r c => (firstMax_spec _ c).1 r) (fun r c => (firstMax_spec _ c).2.1 r) hP
  exact (firstMax_spec (peelX rows640 x s) c).2.2.1.trans (h2 c)

/-- The collected scores. -/
theorem peelEv_apply : ∀ n : ℕ, n ≤ 100 → ∀ (i : Fin 104) (c : Fin 128),
    peelEv rows640 x n (ix2 i c) = if i.val < n then x (ix2 (taken x i.val c) c) else neg (F := Ideal)
  | 0, _, i, c => (if_neg (Nat.not_lt_zero _)).symm
  | n + 1, hn, i, c => by
    show (if i.val = n then colMax (peelX rows640 x n) (ix2 0 c) else peelEv rows640 x n (ix2 i c)) = _
    by_cases h : i.val = n
    · rw [if_pos h, if_pos (by omega), colMax_taken x hx n (by omega), h]
    · rw [if_neg h, peelEv_apply n (by omega) i c]
      exact if_congr (by omega) rfl rfl

omit hx in
/-- The collected positions. -/
theorem peelEi_apply : ∀ n : ℕ, ∀ (i : Fin 104) (c : Fin 128),
    peelEi rows640 lanes x n (ix2 i c) = if i.val < n then BitVec.ofNat 32 (pos (taken x i.val c, c)) else 0#32
  | 0, i, c => (if_neg (Nat.not_lt_zero _)).symm
  | n + 1, i, c => by
    show (if i.val = n then colPos rows640 lanes (peelX rows640 x n) (ix2 0 c) else peelEi rows640 lanes x n (ix2 i c)) = _
    by_cases h : i.val = n
    · rw [if_pos h, if_pos (by omega), h]
      exact (firstMax_spec (peelX rows640 x n) c).2.2.2.1
    · rw [if_neg h, peelEi_apply n i c]
      exact if_congr (by omega) rfl rfl

/-- Enough was collected in `n` trips: all of them were taken, or 100 collected scores exceed everything left. -/
def Enough (n : ℕ) : Prop :=
  n = 100 ∨ ∃ w : EReal, (∀ r c, peelX rows640 x n (ix2 r c) ≤ w)
    ∧ 100 ≤ ((Finset.univ : Finset (Fin 104 × Fin 128)).filter fun q => w < peelEv rows640 x n (ix2 q.1 q.2)).card

/-- The selection over `h` rows that hold all collected cells. -/
theorem selection {h : ℕ} (hs : Sides h) (n : ℕ) (h0 : 0 < n) (hn : n ≤ 100) (hnh : n ≤ h) (hh : h ≤ 104) (he : Enough x n)
    (ev : FVec Ideal (rowsShape h) .f32) (ei : IVec (rowsShape h) 32)
    (hev : ∀ (i : Fin h) (c : Fin 128), ev (ix2 i c) = if i.val < n then x (ix2 (taken x i.val c) c) else neg (F := Ideal))
    (hei : ∀ (i : Fin h) (c : Fin 128), ei (ix2 i c) = if i.val < n then BitVec.ofNat 32 (pos (taken x i.val c, c)) else 0#32) :
    ∃ σ : Fin 100 → Cell,
      (∀ i, selMax hs (selEv hs ei ev i.val) (ix2 0 0) = x (ix2 (σ i).1 (σ i).2))
      ∧ (∀ i, selPos hs ei (selEv hs ei ev i.val) (ix2 0 0) = BitVec.ofNat 32 (pos (σ i)))
      ∧ (∀ i, neg (F := Ideal) < x (ix2 (σ i).1 (σ i).2))
      ∧ (∀ i j, σ i = σ j → i = j)
      ∧ (∀ i j, i < j → Bef (x (ix2 (σ i).1 (σ i).2)) (pos (σ i)) (x (ix2 (σ j).1 (σ j).2)) (pos (σ j)))
      ∧ ∀ (i : Fin 100) (q : Cell), (∀ j, σ j ≠ q) → Bef (x (ix2 (σ i).1 (σ i).2)) (pos (σ i)) (x (ix2 q.1 q.2)) (pos q) := by
  classical
  obtain ⟨hP, hX⟩ := peeled x hx n hn
  have hw : ∀ q : Cell, (BitVec.ofNat 32 (pos q)).toNat = pos q := fun q => by
    rw [BitVec.toNat_ofNat]
    have := pos_lt q
    exact Nat.mod_eq_of_lt (by omega)
  have heis : ∀ (i : Fin h) (c : Fin 128), (ei (ix2 i c)).toNat < 2 ^ 30 := fun i c => by
    rw [hei]
    split
    · rw [hw]; have := pos_lt (taken x i.val c, c); omega
    · decide
  -- the rounds
  have step := fun i : ℕ => select_step hs (by omega) ei (selEv hs ei ev i) heis
  choose τ hmax hmin hM hQ hnext using step
  -- the live cells
  let live : Finset (Fin h × Fin 128) := Finset.univ.filter fun q => q.1.val < n
  let k : Fin h × Fin 128 → EReal := fun q => x (ix2 (taken x q.1.val q.2) q.2)
  let p : Fin h × Fin 128 → ℕ := fun q => (ei (ix2 q.1 q.2)).toNat
  have hlive : ∀ q, q ∈ live ↔ q.1.val < n := fun q => by simp [live]
  have hp : ∀ q ∈ live, p q = pos (taken x q.1.val q.2, q.2) := fun q hq => by
    show (ei (ix2 q.1 q.2)).toNat = _
    rw [hei, if_pos ((hlive q).1 hq), hw]
  have hpe : ∀ q ∈ live, ei (ix2 q.1 q.2) = BitVec.ofNat 32 (pos (taken x q.1.val q.2, q.2)) := fun q hq => by
    rw [hei, if_pos ((hlive q).1 hq)]
  have hcellinj : ∀ q ∈ live, ∀ q' ∈ live, (taken x q.1.val q.2, q.2) = (taken x q'.1.val q'.2, q'.2) → q = q' := by
    intro q hq q' hq' e
    have e2 : q.2 = q'.2 := (Prod.mk.inj e).2
    have e1 := (Prod.mk.inj e).1
    rw [← e2] at e1
    exact Prod.ext (Fin.ext (hP.inj q.2 _ ((hlive q).1 hq) _ ((hlive q').1 hq') e1)) e2
  have hcard : 100 ≤ live.card := by
    have hinj : ((Finset.univ : Finset (Fin 128)).image fun c => ((⟨0, by omega⟩, c) : Fin h × Fin 128)) ⊆ live := by
      intro q hq
      obtain ⟨c, -, rfl⟩ := Finset.mem_image.1 hq
      exact (hlive _).2 h0
    have := Finset.card_le_card hinj
    rw [Finset.card_image_of_injective _ (fun c c' e => (Prod.mk.inj e).2), Finset.card_univ, Fintype.card_fin] at this
    omega
  have hsel := select_first (fun (i : ℕ) (q : Fin h × Fin 128) => (selEv hs ei ev i (ix2 q.1 q.2) : EReal)) τ p (neg (F := Ideal)) live k 100
    (fun q => by
      show ev (ix2 q.1 q.2) = _
      rw [hev]
      exact if_congr (hlive q).symm rfl rfl)
    (fun q hq => hP.real _ ((hlive q).1 hq) q.2)
    (fun q hq q' hq' e => hcellinj q hq q' hq' (pos_inj ((hp q hq).symm.trans (e.trans (hp q' hq')))))
    hmax hmin hnext hcard
  -- positions not collected
  have hdom : ∀ (q : Cell), (∀ t < n, taken x t q.2 ≠ q.1) → ∀ i < 100, Bef (k (τ i)) (p (τ i)) (x (ix2 q.1 q.2)) (pos q) := by
    intro q hq i hi
    have hfin : ∃ T : Finset (Fin h × Fin 128), T ⊆ live ∧ 100 ≤ T.card ∧ ∀ q' ∈ T, Bef (k q') (p q') (x (ix2 q.1 q.2)) (pos q) := by
      rcases he with rfl | ⟨w, hwle, hcnt⟩
      · refine ⟨(Finset.univ : Finset (Fin 100)).image fun t => ((⟨t.val, by omega⟩, q.2) : Fin h × Fin 128), ?_, ?_, ?_⟩
        · intro q' hq'
          obtain ⟨t, -, rfl⟩ := Finset.mem_image.1 hq'
          exact (hlive _).2 t.isLt
        · rw [Finset.card_image_of_injective _ (fun t t' e => Fin.ext (Fin.mk.inj (Prod.mk.inj e).1)), Finset.card_univ, Fintype.card_fin]
        · intro q' hq'
          obtain ⟨t, -, rfl⟩ := Finset.mem_image.1 hq'
          have hl : ((⟨t.val, by omega⟩, q.2) : Fin h × Fin 128) ∈ live := (hlive _).2 t.isLt
          rw [hp _ hl]
          rcases hP.first q.2 q.1 hq t.val t.isLt with hb | ⟨hb, hb'⟩
          · exact .inl hb
          · refine .inr ⟨hb, ?_⟩
            show (taken x t.val q.2).val * 128 + q.2.val < q.1.val * 128 + q.2.val
            omega
      · have hwneg : neg (F := Ideal) ≤ w := by
          have := hwle (taken x 0 q.2) q.2
          rw [hX, if_pos ⟨0, h0, rfl⟩] at this
          exact this
        have hwq : x (ix2 q.1 q.2) ≤ w := by
          have := hwle q.1 q.2
          rw [hX, if_neg (fun ⟨t, ht, e⟩ => hq t ht e)] at this
          exact this
        have hin : ∀ q' : Fin 104 × Fin 128, w < peelEv rows640 x n (ix2 q'.1 q'.2) → q'.1.val < n ∧ w < x (ix2 (taken x q'.1.val q'.2) q'.2) := by
          intro q' h'
          rw [peelEv_apply x hx n hn] at h'
          by_cases hc : q'.1.val < n
          · rw [if_pos hc] at h'
            exact ⟨hc, h'⟩
          · rw [if_neg hc] at h'
            exact absurd h' (not_lt.2 hwneg)
        refine ⟨Finset.univ.filter fun q' => q'.1.val < n ∧ w < k q', ?_, ?_, ?_⟩
        · intro q' hq'
          exact (hlive q').2 (Finset.mem_filter.1 hq').2.1
        · refine hcnt.trans (Finset.card_le_card_of_injOn
            (fun q' : Fin 104 × Fin 128 => ((⟨min q'.1.val (h - 1), by omega⟩, q'.2) : Fin h × Fin 128)) ?_ ?_)
          · intro q' hq'
            obtain ⟨h1, h2⟩ := hin q' (Finset.mem_filter.1 hq').2
            have e : min q'.1.val (h - 1) = q'.1.val := by omega
            refine Finset.mem_coe.2 (Finset.mem_filter.2 ⟨Finset.mem_univ _, ?_, ?_⟩)
            · show min q'.1.val (h - 1) < n
              omega
            · show w < x (ix2 (taken x (min q'.1.val (h - 1)) q'.2) q'.2)
              rw [e]
              exact h2
          · intro q' hq' q'' hq'' e
            obtain ⟨h1, -⟩ := hin q' (Finset.mem_filter.1 hq').2
            obtain ⟨h2, -⟩ := hin q'' (Finset.mem_filter.1 hq'').2
            have e1 : min q'.1.val (h - 1) = min q''.1.val (h - 1) := Fin.mk.inj (Prod.mk.inj e).1
            exact Prod.ext (Fin.ext (by omega)) (Prod.mk.inj e).2
        · intro q' hq'
          exact .inl (lt_of_le_of_lt hwq (Finset.mem_filter.1 hq').2.2)
    obtain ⟨T, hT, hc, hb⟩ := hfin
    exact select_dom τ p live k 100 (fun i hi => ⟨(hsel i hi).2.1, (hsel i hi).2.2.2⟩) _ _ T hT hc hb i hi
  have hpτ : ∀ i < 100, p (τ i) = pos (taken x (τ i).1.val (τ i).2, (τ i).2) := fun i hi => hp _ (hsel i hi).2.1
  have hne : ∀ i j : Fin 100, i < j → τ j.val ≠ τ i.val := fun i j hij e => (hsel j.val j.isLt).2.2.1 i.val hij e.symm
  have hord : ∀ i j : Fin 100, i < j → Bef (k (τ i.val)) (p (τ i.val)) (k (τ j.val)) (p (τ j.val)) := fun i j hij =>
    ((hsel i.val i.isLt).2.2.2 (τ j.val) (hsel j.val j.isLt).2.1 fun j' hj' e =>
      (hsel j.val j.isLt).2.2.1 j' (hj'.trans hij) e).resolve_left (hne i j hij)
  refine ⟨fun i => (taken x (τ i.val).1.val (τ i.val).2, (τ i.val).2), fun i => ?_, fun i => ?_, fun i => ?_, fun i j e => ?_, fun i j hij => ?_, fun i q hq => ?_⟩
  · exact (hM i.val).trans (hsel i.val i.isLt).1
  · exact (hQ i.val).trans (hpe _ (hsel i.val i.isLt).2.1)
  · exact hP.real _ ((hlive _).1 (hsel i.val i.isLt).2.1) _
  · have e' := hcellinj _ (hsel i.val i.isLt).2.1 _ (hsel j.val j.isLt).2.1 e
    rcases lt_trichotomy i j with h' | h' | h'
    · exact absurd e'.symm (hne i j h')
    · exact h'
    · exact absurd e' (hne j i h')
  · have := hord i j hij
    rw [hpτ i.val i.isLt, hpτ j.val j.isLt] at this
    exact this
  · by_cases hc : ∃ t < n, taken x t q.2 = q.1
    · obtain ⟨t, ht, e⟩ := hc
      have hl : ((⟨t, by omega⟩, q.2) : Fin h × Fin 128) ∈ live := (hlive _).2 ht
      have hcell : (taken x t q.2, q.2) = q := Prod.ext e rfl
      have hnot : ∀ j : Fin 100, τ j.val ≠ (⟨t, by omega⟩, q.2) := fun j ej => hq j (by
        show (taken x (τ j.val).1.val (τ j.val).2, (τ j.val).2) = q
        rw [ej]
        exact hcell)
      have := ((hsel i.val i.isLt).2.2.2 _ hl fun j hj => hnot ⟨j, hj.trans i.isLt⟩).resolve_left (fun e' => hnot i e'.symm)
      rw [hpτ i.val i.isLt, hp _ hl] at this
      have e3 : k (⟨t, by omega⟩, q.2) = x (ix2 q.1 q.2) := by
        show x (ix2 (taken x t q.2) q.2) = _
        rw [e]
      rw [e3] at this
      exact hcell ▸ this
    · push Not at hc
      have := hdom q hc i.val i.isLt
      rw [hpτ i.val i.isLt] at this
      exact this

end One

/-! ## When the peeling stops -/

/-- After some turns: with the flag down every turn took a trip; with it up the last trip raised it. -/
theorem stop_enough (X : Fin 8 → Vec Ideal S640x128 .f32) : ∀ t : ℕ,
    ((stop rows640 X t).2 = 0#32 → (stop rows640 X t).1 = t)
      ∧ ((stop rows640 X t).2 ≠ 0#32 → ∃ s, (stop rows640 X t).1 = s + 1 ∧ flag rows640 X s ≠ 0#32)
  | 0 => ⟨fun _ => rfl, fun h => absurd rfl h⟩
  | t + 1 => by
    by_cases h : (stop rows640 X t).2 = 0#32
    · rw [stop_succ_of_zero rows640 X t h]
      exact ⟨fun _ => rfl, fun h' => ⟨t, rfl, h'⟩⟩
    · rw [stop_succ_of_ne rows640 X t h]
      exact ⟨fun h' => absurd h' h, fun _ => (stop_enough X t).2 h⟩

/-- After 100 turns at least one trip was made, and the trips made are enough. -/
theorem trips_enough_of (X : Fin 8 → Vec Ideal S640x128 .f32) (T : ℕ) (hT : T = 100) (b : Fin 8) :
    0 < tripsOf X T ∧ Enough (X b) (tripsOf X T) := by
  have h := stop_enough X T
  rw [tripsOf_eq] at h
  by_cases h' : (stop rows640 X T).2 = 0#32
  · rw [h.1 h', hT]
    exact ⟨by decide, .inl rfl⟩
  · obtain ⟨s, hs, hf⟩ := h.2 h'
    rw [hs]
    refine ⟨Nat.succ_pos s, .inr ⟨leftMax rows640 (peelX rows640 (X b) s), fun r c => leftMax_ge rows640 (peelX rows640 (X b) s) r c, ?_⟩⟩
    exact (enough_apply rows640 (peelX rows640 (X b) s) (peelEv rows640 (X b) (s + 1))).resolve_left (flag_apply rows640 X s hf b)

/-- So the trips the peeling takes are at least one and enough. -/
theorem trips_enough (X : Fin 8 → Vec Ideal S640x128 .f32) (b : Fin 8) : 0 < trips X ∧ Enough (X b) (trips X) :=
  trips_enough_of X turns1 turns1_eq b

/-- The first eight collected rows, read. -/
theorem first8_apply {α : Type} (a : S104x128.Idx → α) (i : Fin 8) (c : Fin 128) : first8 a (ix2 i c) = a (ix2 (⟨i.val, by omega⟩ : Fin 104) c) := by
  refine congrArg a (funext fun d => Fin.ext ?_)
  match d with
  | ⟨0, _⟩ => show 0 + 1 * i.val = i.val; omega
  | ⟨1, _⟩ => show 0 + 1 * c.val = c.val; omega

/-- A lane's number among the 128. -/
abbrev lane (i : Fin 100) : Fin 128 := i.castLE (by decide)

/-- A batch element's selected rows. -/
theorem batch (X : Fin 8 → Vec Ideal S640x128 .f32) (b : Fin 8)
    (hx : ∀ (r : Fin 640) (c : Fin 128), r.val < 639 → neg (F := Ideal) < X b (ix2 r c)) :
    ∃ σ : Fin 100 → Cell,
      (∀ i, bestS X b (ix2 0 (lane i)) = X b (ix2 (σ i).1 (σ i).2))
      ∧ (∀ i, bestF X b (ix2 0 (lane i)) = BitVec.ofNat 32 (pos (σ i)))
      ∧ (∀ i, neg (F := Ideal) < X b (ix2 (σ i).1 (σ i).2))
      ∧ (∀ i j, σ i = σ j → i = j)
      ∧ (∀ i j, i < j → Bef (X b (ix2 (σ i).1 (σ i).2)) (pos (σ i)) (X b (ix2 (σ j).1 (σ j).2)) (pos (σ j)))
      ∧ ∀ (i : Fin 100) (q : Cell), (∀ j, σ j ≠ q) → Bef (X b (ix2 (σ i).1 (σ i).2)) (pos (σ i)) (X b (ix2 q.1 q.2)) (pos q) := by
  obtain ⟨h0, he⟩ := trips_enough X b
  have hle := trips_le X
  obtain ⟨n, hn⟩ : ∃ n, n = trips X := ⟨_, rfl⟩
  rw [← hn] at h0 he hle
  by_cases h8 : n ≤ 8
  · obtain ⟨hS, hF⟩ := best_small X n hn h8 _ _ rfl rfl _ rfl
    rw [← hn] at hS hF
    obtain ⟨σ, h1, h2, h3⟩ := selection (X b) hx sides8 n h0 hle h8 (by decide) he (first8 (peelEv rows640 (X b) n)) (first8 (peelEi rows640 lanes (X b) n))
      (fun i c => (first8_apply _ i c).trans (peelEv_apply (X b) hx n hle _ c)) (fun i c => (first8_apply _ i c).trans (peelEi_apply (X b) n _ c))
    have hl := fun i : Fin 100 => selS_apply sides8 (first8 (peelEi rows640 lanes (X b) n)) (first8 (peelEv rows640 (X b) n)) (lane i) turns2
      (by rw [turns2_eq]; decide) (by rw [turns2_eq]; exact i.isLt)
    exact ⟨σ, fun i => (congrFun (hS b) _).trans ((hl i).1.trans (h1 i)), fun i => (congrFun (hF b) _).trans ((hl i).2.trans (h2 i)), h3⟩
  · obtain ⟨hS, hF⟩ := best_big X n hn h8 _ _ rfl rfl _ rfl
    rw [← hn] at hS hF
    obtain ⟨σ, h1, h2, h3⟩ := selection (X b) hx sides104 n h0 hle (by omega) le_rfl he (peelEv rows640 (X b) n) (peelEi rows640 lanes (X b) n)
      (fun i c => peelEv_apply (X b) hx n hle _ c) (fun i c => peelEi_apply (X b) n _ c)
    have hl := fun i : Fin 100 => selS_apply sides104 (peelEi rows640 lanes (X b) n) (peelEv rows640 (X b) n) (lane i) turns3
      (by rw [turns3_eq]; decide) (by rw [turns3_eq]; exact i.isLt)
    exact ⟨σ, fun i => (congrFun (hS b) _).trans ((hl i).1.trans (h1 i)), fun i => (congrFun (hF b) _).trans ((hl i).2.trans (h2 i)), h3⟩

end Cert.KernelIdeal.Val
end
-- ==== Proof.Epilogue.lean ====
/-
  What the last stage of the kernel computes of a batch element's selected rows at exact numbers: the sigmoid of a selected
  score, the class and the query of a selected position, and the scaled box of that query.
-/
module

public import proofs.«01_k».proof.Proof.ValOut
public import proofs.«01_k».proof.Proof.Pieces

@[expose] public section

set_option maxRecDepth 16384

noncomputable section

namespace Cert.KernelIdeal.Val

open Cert.KernelIdeal Cert.KernelIdeal.Gen
open Idealize.ShloMosaic

/-- The score stored is the sigmoid of the selected score. -/
theorem score_apply (v : Vec Ideal S1x128 .f32) (l : Fin 128) : k0_pay222 (F := Ideal) v (ix2 0 l) = Ideal.logistic (v (ix2 0 l)) := by
  unfold k0_pay222
  simp only [pointwise]

/-- The query of position `p` is `p / 91`. -/
theorem query_apply (v : Vec Ideal S1x128 .i32) (l : Fin 128) (p : ℕ) (hp : p < 81900) (h : v (ix2 0 l) = BitVec.ofNat 32 p) :
    k0_pay223 (F := Ideal) v (ix2 0 l) = BitVec.ofNat 32 (p / 91) := by
  have hw : k0_pay221 (F := Ideal) v (ix2 0 l) = BitVec.ofNat 32 p := by
    unfold k0_pay221
    simp only [pointwise]
    exact h
  unfold k0_pay223
  generalize k0_pay221 (F := Ideal) v = w at *
  simp only [pointwise, hw]
  rw [Routing.remsi_word _ (by omega) (by decide) (by decide), Routing.divsi_word _ (by omega) (by decide) (by decide)]
  refine Cert.Pieces.no_fix _ _ _ _ ?_
  by_cases hz : p = 0
  · subst hz
    exact Or.inr (by decide)
  · refine Or.inl ?_
    rw [Cert.Pieces.slt_zero _ (by omega), Cert.Pieces.sgt_zero _ (by omega) (by omega)]
    decide

/-- The class of position `p` is `p % 91`. -/
theorem class_apply (v : Vec Ideal S1x128 .i32) (l : Fin 128) (p : ℕ) (hp : p < 81900) (h : v (ix2 0 l) = BitVec.ofNat 32 p) :
    k0_pay224 (F := Ideal) v (ix2 0 l) = BitVec.ofNat 32 (p % 91) := by
  have hw : k0_pay221 (F := Ideal) v (ix2 0 l) = BitVec.ofNat 32 p := by
    unfold k0_pay221
    simp only [pointwise]
    exact h
  have hq := query_apply v l p hp h
  unfold k0_pay224
  simp only [pointwise, hw, hq]
  show BitVec.ofNat 32 p - BitVec.ofNat 32 (p / 91) * 91#32 = _
  refine BitVec.eq_of_toNat_eq ?_
  rw [BitVec.toNat_sub, BitVec.toNat_mul, BitVec.toNat_ofNat, BitVec.toNat_ofNat, BitVec.toNat_ofNat, BitVec.toNat_ofNat]
  omega

/-- A box table's plane, read. -/
theorem table_apply (T : Vec Ideal S1x1024x4 .f32) (x : Fin 1024) (k : Fin 4) :
    shapeCast S1024x4 T shapeCasts_S1x1024x4_S1024x4 (ix2 x k) = T (ix3 0 x k) := by
  simp only [pointwise]

/-- A column of the table, read. -/
theorem col_apply (T : FVec Ideal S1024x4 .f32) (k : Fin 4) (h : S1024x4.Slices ![0, k.val] S1024x1) (x : Fin 1024) :
    extractStridedSlice S1024x1 ![0, k.val] T h (ix2 x 0) = T (ix2 x k) := by
  fin_cases k <;> (simp only [pointwise]; congr 1 <;> simp)

/-- A low corner coordinate: the centre less half the extent. -/
theorem low_apply (T : FVec Ideal S1024x4 .f32) (k l : Fin 4) (h : S1024x4.Slices ![0, k.val] S1024x1)
    (h' : S1024x4.Slices ![0, l.val] S1024x1) (x : Fin 1024) :
    subf (extractStridedSlice S1024x1 ![0, k.val] T h) (mulf (broadcast S1024x1 (FloatOps.ofBits .f32 0x3F000000#32))
      (extractStridedSlice S1024x1 ![0, l.val] T h')) (ix2 x 0) = T (ix2 x k) - Ideal.ofBits .f32 0x3F000000#32 * T (ix2 x l) := by
  have e := col_apply T k h x
  have e' := col_apply T l h' x
  generalize extractStridedSlice S1024x1 ![0, k.val] T h = U at *
  generalize extractStridedSlice S1024x1 ![0, l.val] T h' = U' at *
  simp only [pointwise, e, e']

/-- A high corner coordinate: the centre plus half the extent. -/
theorem high_apply (T : FVec Ideal S1024x4 .f32) (k l : Fin 4) (h : S1024x4.Slices ![0, k.val] S1024x1)
    (h' : S1024x4.Slices ![0, l.val] S1024x1) (x : Fin 1024) :
    addf (extractStridedSlice S1024x1 ![0, k.val] T h) (mulf (broadcast S1024x1 (FloatOps.ofBits .f32 0x3F000000#32))
      (extractStridedSlice S1024x1 ![0, l.val] T h')) (ix2 x 0) = T (ix2 x k) + Ideal.ofBits .f32 0x3F000000#32 * T (ix2 x l) := by
  have e := col_apply T k h x
  have e' := col_apply T l h' x
  generalize extractStridedSlice S1024x1 ![0, k.val] T h = U at *
  generalize extractStridedSlice S1024x1 ![0, l.val] T h' = U' at *
  simp only [pointwise, e, e']

/-- The one-hot entry of row `x` for the query `q`. -/
theorem hot_apply (x q : ℕ) (hx : x < 1024) (hq : q < 1024) :
    FloatOps.sitofp (F := Ideal) .f32 (BitVec.setWidth 32 (IntOp.cmpi .eq (BitVec.ofNat 32 x) (BitVec.ofNat 32 q)))
      = if x = q then 1 else 0 := by
  by_cases h : x = q
  · subst h
    rw [if_pos rfl, show IntOp.cmpi .eq (BitVec.ofNat 32 x) (BitVec.ofNat 32 x) = 1#1 by simp [IntOp.cmpi]]
    show (((((1#1 : BitVec 1).setWidth 32).toInt : ℤ) : ℝ) : EReal) = 1
    simp
  · have hne : BitVec.ofNat 32 x ≠ BitVec.ofNat 32 q := fun e => h (by
      have := congrArg BitVec.toNat e
      rw [BitVec.toNat_ofNat, BitVec.toNat_ofNat] at this
      omega)
    rw [if_neg h, show IntOp.cmpi .eq (BitVec.ofNat 32 x) (BitVec.ofNat 32 q) = 0#1 by
      show BitVec.ofBool (BitVec.ofNat 32 x == BitVec.ofNat 32 q) = 0#1
      rw [beq_eq_false_iff_ne.2 hne]
      rfl]
    show (((((0#1 : BitVec 1).setWidth 32).toInt : ℤ) : ℝ) : EReal) = 0
    simp

/-- The box stored for query `q`: its corners, each times its scale. -/
theorem box_apply (Q : IVec S1x128 32) (T : Vec Ideal S1x1024x4 .f32) (Z : Vec Ideal S1x4 .f32) (l : Fin 128) (k : Fin 4) (q : ℕ)
    (hq : q < 1024) (h : Q (ix2 0 l) = BitVec.ofNat 32 q) :
    k0_pay225 (F := Ideal) rows1024 Q T Z (ix3 0 l k)
      = Cert.Pieces.corner (fun j => T (ix3 0 ⟨q, hq⟩ j)) k * Z (ix2 0 k) := by
  unfold k0_pay225
  generalize hcat : concatenate S1024x4 1 _ _ = Y
  have hY : Y (ix2 ⟨q, hq⟩ k) = Cert.Pieces.corner (fun j => T (ix3 0 ⟨q, hq⟩ j)) k := by
    rw [← hcat]
    refine (Cert.Pieces.four_cols _ _ _ _ _ _ k).trans ?_
    simp only [← table_apply]
    match k with
    | 0 => exact low_apply _ 0 2 slices_S1024x4_o0_0_S1024x1 slices_S1024x4_o0_2_S1024x1 ⟨q, hq⟩
    | 1 => exact low_apply _ 1 3 slices_S1024x4_o0_1_S1024x1 slices_S1024x4_o0_3_S1024x1 ⟨q, hq⟩
    | 2 => exact high_apply _ 0 2 slices_S1024x4_o0_0_S1024x1 slices_S1024x4_o0_2_S1024x1 ⟨q, hq⟩
    | 3 => exact high_apply _ 1 3 slices_S1024x4_o0_1_S1024x1 slices_S1024x4_o0_3_S1024x1 ⟨q, hq⟩
  clear hcat
  simp only [pointwise]
  refine (zero_add _).trans ?_
  show ∑ x : Fin 1024, FloatOps.sitofp (F := Ideal) .f32 (BitVec.setWidth 32 (IntOp.cmpi .eq
      (BitVec.ofNat 32 (0 * 1024 + x.val)) (Q (ix2 0 l)))) * (Y (ix2 x k) * Z (ix2 0 k)) = _
  rw [h, Finset.sum_eq_single (⟨q, hq⟩ : Fin 1024)]
  · rw [Nat.zero_mul, Nat.zero_add, hot_apply _ _ hq hq, if_pos rfl, hY]
    exact one_mul _
  · intro x _ hx
    rw [Nat.zero_mul, Nat.zero_add, hot_apply _ _ x.isLt hq, if_neg (fun e => hx (Fin.ext e))]
    exact zero_mul _
  · exact fun hn => absurd (Finset.mem_univ _) hn

end Cert.KernelIdeal.Val
end
-- ==== Proof.Prefix.lean ====
/-
  The stable sort that picks the greatest values of a row: what its first positions are, given by the order "larger value
  first, of equal values the earlier position first".
-/
module

public import proofs.«01_k».proof.Proof.Order
public import Idealize.ShloMosaic.Lib.SortPrefix
public import Idealize.ShloMosaic.Lib.Pointwise

@[expose] public section

namespace Cert.Top

open Idealize.ShloMosaic

/-- A stable sort of positions in ascending order is the sort that breaks ties by position. -/
theorem stable_ties {n : ℕ} (B B' : Fin n → Fin n → Bool) (h : ∀ p q, p < q → B q p = B' q p) (l : List (Fin n))
    (hl : l.Pairwise (· < ·)) : stableSort B l = stableSort B' l := by
  induction l with
  | nil => rfl
  | cons a l ih =>
    obtain ⟨ha, hl⟩ := List.pairwise_cons.1 hl
    show insertBefore B a (stableSort B l) = insertBefore B' a (stableSort B' l)
    rw [ih hl]
    exact insertBefore_congr B B' a _ fun b hb => h a b (ha b ((perm_stableSort B' l).mem_iff.1 hb))

/-- The first `k` positions of the descending stable sort of `key` are `σ`, when `σ` lists `k` positions in the order and
    every other position comes after them. -/
theorem first_sorted {n k : ℕ} (key : Fin n → EReal) (hk : k ≤ n) (B : Fin n → Fin n → Bool)
    (hB : ∀ p q, B p q = decide (key q < key p)) (σ : Fin k → Fin n) (hinj : Function.Injective σ)
    (hord : ∀ i j, i < j → Bef (key (σ i)) (σ i).val (key (σ j)) (σ j).val)
    (hdom : ∀ i q, (∀ j, σ j ≠ q) → Bef (key (σ i)) (σ i).val (key q) q.val) (i : Fin k) :
    sortedFrom B (i.castLE hk) = σ i := by
  let B' : Fin n → Fin n → Bool := fun p q => decide (key q < key p) || (decide (key p = key q) && decide (p < q))
  have hB' : StrictTotalBefore B' :=
    StrictTotalBefore.of_key_then_position (fun a b : EReal => decide (b < a)) key (fun a => by simp)
      (fun a b c h h' => by simp at h h' ⊢; exact h'.trans h)
      (fun a b => by
        rcases lt_trichotomy a b with h | h | h
        · exact .inr (.inr (by simpa using h))
        · exact .inr (.inl h)
        · exact .inl (by simpa using h))
  have hpos : sortPositions n B = sortPositions n B' := by
    unfold sortPositions
    refine stable_ties B B' (fun p q hpq => ?_) _ (List.pairwise_lt_finRange n)
    rw [hB]
    show _ = (decide (key p < key q) || (decide (key q = key p) && decide (q < p)))
    rw [decide_eq_false (p := q < p) (by omega), Bool.and_false, Bool.or_false]
  have hs : sortedFrom B (i.castLE hk) = sortedFrom B' (i.castLE hk) := by
    unfold sortedFrom
    simp only [List.get_eq_getElem, hpos, Fin.val_cast]
  have hbef : ∀ p q : Fin n, Bef (key p) p.val (key q) q.val → B' q p = false := by
    intro p q h
    cases hc : B' q p with
    | false => rfl
    | true =>
      refine absurd ?_ h.asymm
      have hc' : (decide (key p < key q) || (decide (key q = key p) && decide (q < p))) = true := hc
      simp only [Bool.or_eq_true, Bool.and_eq_true, decide_eq_true_eq] at hc'
      exact hc'
  rw [hs]
  exact hB'.sortedFrom_eq_of_prefix hk σ hinj (fun a b h => hbef _ _ (hord a b h)) (fun a p h => hbef _ _ (hdom a p h)) i

end Cert.Top
-- ==== Proof.RefSide.lean ====
/-
  What the reference computes, part by part: the scores, the 100 greatest of each batch element with their positions, the
  class and the query of a position, and the scaled box of a query; each read at an index.
-/
module

public import proofs.«01_k».proof.Proof.Pieces
public import proofs.«01_k».proof.Proof.Gen.ReferenceIdeal.Run

@[expose] public section

set_option maxRecDepth 16384

noncomputable section

namespace Cert.ReferenceIdeal.Read

open Cert.ReferenceIdeal Cert.ReferenceIdeal.Gen
open Idealize.ShloMosaic Idealize.ShloMosaic.TcCoe Idealize.SL.Sem

/-- The class scores after the sigmoid, one row for each batch. -/
def scores (A : FVec Ideal S6x8x900x1100 .f32) : FVec Ideal S8x81900 .f32 :=
  shapeCast S8x81900 (extractStridedSlice S8x900x91 ![0, 0, 1000] (Host.divf (broadcastInDim S8x900x1100 ![] bcast_S_S8x900x1100 (constant S_ .f32 0x3F800000#32)) (addf (broadcastInDim S8x900x1100 ![] bcast_S_S8x900x1100 (constant S_ .f32 0x3F800000#32)) (Host.exp (Host.negf (shapeCast S8x900x1100 (extractStridedSlice S1x8x900x1100 ![4, 0, 0, 0] A slices_S6x8x900x1100_S1x8x900x1100_4_0_0_0) shapeCasts_S1x8x900x1100_S8x900x1100))))) slices_S8x900x1100_S8x900x91_0_0_1000) shapeCasts_S8x900x91_S8x81900

/-- The class of each chosen position: its remainder by 91. -/
def classes (I : IVec S8x100 32) : IVec S8x100 32 :=
  select (andi (cmpi .ne (cmpi .slt (Host.remsi I (broadcastInDim S8x100 ![] bcast_S_S8x100 (select (cmpi .eq (id (constantI S_ 32 91#32)) (constantI S_ 32 0#32)) (constantI S_ 32 1#32) (id (constantI S_ 32 91#32))))) (broadcastInDim S8x100 ![] bcast_S_S8x100 (constantI S_ 32 0#32))) (broadcastInDim S8x100 ![] bcast_S_S8x100 (cmpi .slt (select (cmpi .eq (id (constantI S_ 32 91#32)) (constantI S_ 32 0#32)) (constantI S_ 32 1#32) (id (constantI S_ 32 91#32))) (constantI S_ 32 0#32)))) (cmpi .ne (Host.remsi I (broadcastInDim S8x100 ![] bcast_S_S8x100 (select (cmpi .eq (id (constantI S_ 32 91#32)) (constantI S_ 32 0#32)) (constantI S_ 32 1#32) (id (constantI S_ 32 91#32))))) (broadcastInDim S8x100 ![] bcast_S_S8x100 (constantI S_ 32 0#32)))) (addi (Host.remsi I (broadcastInDim S8x100 ![] bcast_S_S8x100 (select (cmpi .eq (id (constantI S_ 32 91#32)) (constantI S_ 32 0#32)) (constantI S_ 32 1#32) (id (constantI S_ 32 91#32))))) (broadcastInDim S8x100 ![] bcast_S_S8x100 (select (cmpi .eq (id (constantI S_ 32 91#32)) (constantI S_ 32 0#32)) (constantI S_ 32 1#32) (id (constantI S_ 32 91#32))))) (Host.remsi I (broadcastInDim S8x100 ![] bcast_S_S8x100 (select (cmpi .eq (id (constantI S_ 32 91#32)) (constantI S_ 32 0#32)) (constantI S_ 32 1#32) (id (constantI S_ 32 91#32)))))

/-- The query of each chosen position: its quotient by 91. -/
def queries (I : IVec S8x100 32) : IVec S8x100 32 :=
  select (andi (cmpi .ne (signi I) (broadcastInDim S8x100 ![] bcast_S_S8x100 (signi (id (constantI S_ 32 91#32))))) (cmpi .ne (Host.remsi I (broadcastInDim S8x100 ![] bcast_S_S8x100 (id (constantI S_ 32 91#32)))) (broadcastInDim S8x100 ![] bcast_S_S8x100 (constantI S_ 32 0#32)))) (subi (Host.divsi I (broadcastInDim S8x100 ![] bcast_S_S8x100 (id (constantI S_ 32 91#32)))) (broadcastInDim S8x100 ![] bcast_S_S8x100 (constantI S_ 32 1#32))) (Host.divsi I (broadcastInDim S8x100 ![] bcast_S_S8x100 (id (constantI S_ 32 91#32))))

/-- The queries as the lookup takes them, a negative one counted from the end. -/
def starts (Q : IVec S8x100 32) : IVec S8x100x1 32 :=
  select (cmpi .slt (broadcastInDim S8x100x1 ![0, 1] bcast_S8x100_S8x100x1_0_1 Q) (broadcastInDim S8x100x1 ![] bcast_S_S8x100x1 (constantI S_ 32 0#32))) (addi (broadcastInDim S8x100x1 ![0, 1] bcast_S8x100_S8x100x1_0_1 Q) (broadcastInDim S8x100x1 ![] bcast_S_S8x100x1 (constantI S_ 32 900#32))) (broadcastInDim S8x100x1 ![0, 1] bcast_S8x100_S8x100x1_0_1 Q)

/-- Which of them lie inside the table. -/
def inside (W : IVec S8x100x1 32) : IVec S8x100 1 :=
  Host.reduce IntOp.andi (andi (cmpi .sge W (broadcastInDim S8x100x1 ![] bcast_S_S8x100x1 (constantI S_ 32 0#32))) (cmpi .sle W (broadcastInDim S8x100x1 ![0, 1, 2] bcast_S1x1x1_S8x100x1_0_1_2 (broadcastInDim S1x1x1 ![2] bcast_S1_S1x1x1_2 (constantI S1 32 899#32))))) (constantI S_ 1 1#1) reducesTo_S8x100x1_S8x100_d2 h_S_

/-- One coordinate of every box. -/
def coord (k : Fin 4) (h : S8x900x4.Slices ![0, 0, k.val] S8x900x1) (B : FVec Ideal S8x900x4 .f32) : FVec Ideal S8x900 .f32 :=
  shapeCast S8x900 (extractStridedSlice S8x900x1 ![0, 0, k.val] B h) shapeCasts_S8x900x1_S8x900

/-- Half of one coordinate of every box. -/
def half (X : FVec Ideal S8x900 .f32) : FVec Ideal S8x900 .f32 :=
  mulf (broadcastInDim S8x900 ![] bcast_S_S8x900 (constant S_ .f32 0x3F000000#32)) X

/-- The boxes by their corners. -/
def corners (B : FVec Ideal S8x900x4 .f32) : FVec Ideal S8x900x4 .f32 :=
  concatenate S8x900x4 2 [
    ⟨S8x900x1, broadcastInDim S8x900x1 ![0, 1] bcast_S8x900_S8x900x1_0_1 (subf (coord 0 slices_S8x900x4_S8x900x1_0_0_0 B) (half (coord 2 slices_S8x900x4_S8x900x1_0_0_2 B)))⟩,
    ⟨S8x900x1, broadcastInDim S8x900x1 ![0, 1] bcast_S8x900_S8x900x1_0_1 (subf (coord 1 slices_S8x900x4_S8x900x1_0_0_1 B) (half (coord 3 slices_S8x900x4_S8x900x1_0_0_3 B)))⟩,
    ⟨S8x900x1, broadcastInDim S8x900x1 ![0, 1] bcast_S8x900_S8x900x1_0_1 (addf (coord 0 slices_S8x900x4_S8x900x1_0_0_0 B) (half (coord 2 slices_S8x900x4_S8x900x1_0_0_2 B)))⟩,
    ⟨S8x900x1, broadcastInDim S8x900x1 ![0, 1] bcast_S8x900_S8x900x1_0_1 (addf (coord 1 slices_S8x900x4_S8x900x1_0_0_1 B) (half (coord 3 slices_S8x900x4_S8x900x1_0_0_3 B)))⟩]
    concatenates_S8x900x1_S8x900x1_S8x900x1_S8x900x1_S8x900x4_d2

/-- One column of the image sizes. -/
def size (k : Fin 2) (h : S8x2.Slices ![0, k.val] S8x1) (C : FVec Ideal S8x2 .f32) : FVec Ideal S8x1 .f32 :=
  broadcastInDim S8x1 ![0] bcast_S8_S8x1_0 (shapeCast S8 (extractStridedSlice S8x1 ![0, k.val] C h) shapeCasts_S8x1_S8)

/-- Width, height, width, height of every image. -/
def sizes (C : FVec Ideal S8x2 .f32) : FVec Ideal S8x4 .f32 :=
  concatenate S8x4 1 [⟨S8x1, size 1 slices_S8x2_S8x1_0_1 C⟩, ⟨S8x1, size 0 slices_S8x2_S8x1_0_0 C⟩,
    ⟨S8x1, size 1 slices_S8x2_S8x1_0_1 C⟩, ⟨S8x1, size 0 slices_S8x2_S8x1_0_0 C⟩] concatenates_S8x1_S8x1_S8x1_S8x1_S8x4_d1

/-- The chosen boxes, scaled. -/
def chosen (Q : IVec S8x100 32) (B : FVec Ideal S8x900x4 .f32) (C : FVec Ideal S8x2 .f32) : FVec Ideal S8x100x4 .f32 :=
  mulf (select (broadcastInDim S8x100x4 ![0, 1] bcast_S8x100_S8x100x4_0_1 (inside (starts Q)))
      (Host.gather gather_S8x900x4_S8x100x1_S8x100x4_2_1_0_0_1_2_114 (corners B) (starts Q))
      (broadcastInDim S8x100x4 ![] bcast_S_S8x100x4 (constant S_ .f32 0x7FC00000#32)))
    (broadcastInDim S8x100x4 ![0, 1, 2] bcast_S8x1x4_S8x100x4_0_1_2 (broadcastInDim S8x1x4 ![0, 2] bcast_S8x4_S8x1x4_0_2 (sizes C)))

/-- The greatest 100 of each row, with their positions. -/
def top (A : FVec Ideal S6x8x900x1100 .f32) : FVec Ideal S8x100 .f32 × IVec S8x100 32 :=
  Host.topK S8x100 1 (FloatOps.cmpfTotal .gt) (scores A) sliceFits_S8x81900_S8x100

/-- The reference's run: its three results are the greatest scores, their classes and their scaled boxes. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_values) = (top (m (c, Proc.tc.devRef main_arg0))).1
      ∧ r.2.mem ((c.tc : Thread nD τ).loc main_v11) = classes (top (m (c, Proc.tc.devRef main_arg0))).2
      ∧ r.2.mem ((c.tc : Thread nD τ).loc main_v50) = chosen (queries (top (m (c, Proc.tc.devRef main_arg0))).2)
          (m (c, Proc.tc.devRef main_arg1)) (m (c, Proc.tc.devRef main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2.1, (h c).2.2.1.trans rfl, (h c).2.2.2⟩) (Value.run m ρ)

/-- A score is the sigmoid of its class score. -/
theorem scores_apply (A : FVec Ideal S6x8x900x1100 .f32) (b : Fin 8) (p : Fin 81900) :
    scores A (ix2 b p) = Ideal.logistic (A (ix4 4 b ⟨p.val / 91, by omega⟩ ⟨1000 + p.val % 91, by omega⟩)) := by
  unfold scores
  simp only [pointwise]
  refine congrArg (fun j => Ideal.logistic (A j)) ?_
  congr 1 <;> simp

/-- The class of position `p` is `p % 91`. -/
theorem classes_apply (I : IVec S8x100 32) (b : Fin 8) (i : Fin 100) (p : ℕ) (hp : p < 81900) (h : I (ix2 b i) = BitVec.ofNat 32 p) :
    classes I (ix2 b i) = BitVec.ofNat 32 (p % 91) := by
  unfold classes
  simp only [pointwise, h]
  have e : Scalar.select (IntOp.cmpi CmpIPredicate.eq (id (constantI S_ 32 91#32) ix0) 0#32) (1#32)
      (id (constantI S_ 32 91#32) ix0) = 91#32 := by decide
  rw [e, Routing.remsi_word _ (by omega) (by decide) (by decide)]
  refine Cert.Pieces.no_fix _ _ _ _ (Or.inl ?_)
  rw [Cert.Pieces.slt_zero _ (by omega)]
  decide

/-- The query of position `p` is `p / 91`. -/
theorem queries_apply (I : IVec S8x100 32) (b : Fin 8) (i : Fin 100) (p : ℕ) (hp : p < 81900) (h : I (ix2 b i) = BitVec.ofNat 32 p) :
    queries I (ix2 b i) = BitVec.ofNat 32 (p / 91) := by
  unfold queries
  simp only [pointwise, h]
  have e : (id (constantI S_ 32 91#32) ix0 : BitVec 32) = 91#32 := rfl
  rw [e, Routing.remsi_word _ (by omega) (by decide) (by decide), Routing.divsi_word _ (by omega) (by decide) (by decide)]
  refine Cert.Pieces.no_fix _ _ _ _ ?_
  by_cases hz : p = 0
  · subst hz
    exact Or.inr (by decide)
  · refine Or.inl ?_
    rw [if_neg (Cert.Pieces.ofNat_ne_zero _ (by omega) (by omega)), Cert.Pieces.msb_small _ (by omega)]
    decide

/-- The lookup takes a query as it is. -/
theorem starts_apply (Q : IVec S8x100 32) (b : Fin 8) (i : Fin 100) (q : ℕ) (hq : q < 900) (h : Q (ix2 b i) = BitVec.ofNat 32 q) :
    starts Q (ix3 b i 0) = BitVec.ofNat 32 q := by
  unfold starts
  simp only [pointwise]
  show Scalar.select (IntOp.cmpi .slt (Q (ix2 b i)) 0#32) (IntOp.addi (Q (ix2 b i)) 900#32) (Q (ix2 b i)) = _
  rw [h, Cert.Pieces.slt_zero _ (by omega)]
  rfl

/-- A query below 900 is inside the table. -/
theorem inside_apply (W : IVec S8x100x1 32) (b : Fin 8) (i : Fin 100) (q : ℕ) (hq : q < 900) (h : W (ix3 b i 0) = BitVec.ofNat 32 q) :
    inside W (ix2 b i) = 1#1 := by
  unfold inside
  simp only [pointwise]
  rw [Finset.univ_unique, Finset.fold_singleton]
  show IntOp.andi (IntOp.andi (IntOp.cmpi .sge (W (ix3 b i 0)) 0#32) (IntOp.cmpi .sle (W (ix3 b i 0)) 899#32)) 1#1 = 1#1
  rw [h, Cert.Pieces.sge_zero _ (by omega), Cert.Pieces.sle_of_le _ 899 (by omega) (by decide)]
  rfl

/-- The row a query names. -/
theorem lookup_apply {α : Type} (x : S8x900x4.Idx → α) (W : IVec S8x100x1 32) (b : Fin 8) (i : Fin 100) (k : Fin 4) (q : ℕ) (hq : q < 900)
    (h : W (ix3 b i 0) = BitVec.ofNat 32 q) :
    Host.gather gather_S8x900x4_S8x100x1_S8x100x4_2_1_0_0_1_2_114 x W (ix3 b i k) = x (ix3 b ⟨q, hq⟩ k) := by
  unfold Host.gather
  congr 1
  funext a
  refine Fin.ext ?_
  show (gather_S8x900x4_S8x100x1_S8x100x4_2_1_0_0_1_2_114).start (ix3 b i k) W a
      + (gather_S8x900x4_S8x100x1_S8x100x4_2_1_0_0_1_2_114).batchCoord (ix3 b i k) a
      + (gather_S8x900x4_S8x100x1_S8x100x4_2_1_0_0_1_2_114).offCoord (ix3 b i k) a = _
  have hsi : (gather_S8x900x4_S8x100x1_S8x100x4_2_1_0_0_1_2_114).siIdx (ix3 b i k) ⟨0, Nat.one_pos⟩ = ix3 b i 0 := by
    funext e
    refine Fin.ext ?_
    match e with
    | ⟨0, _⟩ => rfl
    | ⟨1, _⟩ => rfl
    | ⟨2, _⟩ => rfl
  match a with
  | ⟨0, _⟩ =>
    show 0 + b.val + 0 = b.val
    omega
  | ⟨1, _⟩ =>
    show min (W ((gather_S8x900x4_S8x100x1_S8x100x4_2_1_0_0_1_2_114).siIdx (ix3 b i k) ⟨0, Nat.one_pos⟩)).toInt.toNat 899 + 0 + 0 = q
    rw [hsi, h, Cert.Pieces.toInt_small _ (by omega)]
    omega
  | ⟨2, _⟩ =>
    show 0 + 0 + k.val = k.val
    omega

/-- One coordinate, read. -/
theorem coord_apply (k : Fin 4) (h : S8x900x4.Slices ![0, 0, k.val] S8x900x1) (B : FVec Ideal S8x900x4 .f32) (b : Fin 8) (q : Fin 900) :
    coord k h B (ix2 b q) = B (ix3 b q k) := by
  unfold coord
  fin_cases k <;> (simp only [pointwise]; congr 1 <;> simp)

/-- One half, read. -/
theorem half_apply (X : FVec Ideal S8x900 .f32) (b : Fin 8) (q : Fin 900) :
    half X (ix2 b q) = Ideal.ofBits .f32 0x3F000000#32 * X (ix2 b q) := by
  unfold half
  simp only [pointwise]

/-- A plane's column, read. -/
theorem plane_apply (X : FVec Ideal S8x900 .f32) (b : Fin 8) (q : Fin 900) :
    broadcastInDim S8x900x1 ![0, 1] bcast_S8x900_S8x900x1_0_1 X (ix3 b q 0) = X (ix2 b q) := by
  simp only [pointwise]
  rfl

/-- A low corner coordinate: the centre less half the extent. -/
theorem low_apply (k l : Fin 4) (h : S8x900x4.Slices ![0, 0, k.val] S8x900x1) (h' : S8x900x4.Slices ![0, 0, l.val] S8x900x1)
    (B : FVec Ideal S8x900x4 .f32) (b : Fin 8) (q : Fin 900) :
    subf (coord k h B) (half (coord l h' B)) (ix2 b q) = B (ix3 b q k) - Ideal.ofBits .f32 0x3F000000#32 * B (ix3 b q l) := by
  simp only [pointwise, coord_apply, half_apply]

/-- A high corner coordinate: the centre plus half the extent. -/
theorem high_apply (k l : Fin 4) (h : S8x900x4.Slices ![0, 0, k.val] S8x900x1) (h' : S8x900x4.Slices ![0, 0, l.val] S8x900x1)
    (B : FVec Ideal S8x900x4 .f32) (b : Fin 8) (q : Fin 900) :
    addf (coord k h B) (half (coord l h' B)) (ix2 b q) = B (ix3 b q k) + Ideal.ofBits .f32 0x3F000000#32 * B (ix3 b q l) := by
  simp only [pointwise, coord_apply, half_apply]

/-- The corners of query `q`'s box. -/
theorem corners_apply (B : FVec Ideal S8x900x4 .f32) (b : Fin 8) (q : Fin 900) (k : Fin 4) :
    corners B (ix3 b q k) = Cert.Pieces.corner (fun j => B (ix3 b q j)) k := by
  unfold corners
  refine (Cert.Pieces.four_planes _ _ _ _ _ b q k).trans ?_
  match k with
  | 0 => exact (plane_apply (subf (coord 0 _ B) (half (coord 2 _ B))) b q).trans (low_apply 0 2 _ _ B b q)
  | 1 => exact (plane_apply (subf (coord 1 _ B) (half (coord 3 _ B))) b q).trans (low_apply 1 3 _ _ B b q)
  | 2 => exact (plane_apply (addf (coord 0 _ B) (half (coord 2 _ B))) b q).trans (high_apply 0 2 _ _ B b q)
  | 3 => exact (plane_apply (addf (coord 1 _ B) (half (coord 3 _ B))) b q).trans (high_apply 1 3 _ _ B b q)

/-- One size, read. -/
theorem size_apply (k : Fin 2) (h : S8x2.Slices ![0, k.val] S8x1) (C : FVec Ideal S8x2 .f32) (b : Fin 8) :
    size k h C (ix2 b 0) = C (ix2 b k) := by
  unfold size
  fin_cases k <;> (simp only [pointwise]; congr 1 <;> simp)

/-- The scale of each coordinate. -/
theorem sizes_apply (C : FVec Ideal S8x2 .f32) (b : Fin 8) (k : Fin 4) : sizes C (ix2 b k) = C (ix2 b (![1, 0, 1, 0] k)) := by
  unfold sizes
  refine (Cert.Pieces.four_cols _ _ _ _ _ b k).trans ?_
  fin_cases k
  · exact size_apply 1 slices_S8x2_S8x1_0_1 C b
  · exact size_apply 0 slices_S8x2_S8x1_0_0 C b
  · exact size_apply 1 slices_S8x2_S8x1_0_1 C b
  · exact size_apply 0 slices_S8x2_S8x1_0_0 C b

/-- A chosen box: query `q`'s corners, each times its scale. -/
theorem chosen_apply (Q : IVec S8x100 32) (B : FVec Ideal S8x900x4 .f32) (C : FVec Ideal S8x2 .f32) (b : Fin 8) (i : Fin 100) (k : Fin 4)
    (q : ℕ) (hq : q < 900) (h : Q (ix2 b i) = BitVec.ofNat 32 q) :
    chosen Q B C (ix3 b i k) = Cert.Pieces.corner (fun j => B (ix3 b ⟨q, hq⟩ j)) k * C (ix2 b (![1, 0, 1, 0] k)) := by
  have hs := starts_apply Q b i q hq h
  have hi := inside_apply _ b i q hq hs
  have hl := lookup_apply (corners B) _ b i k q hq hs
  unfold chosen
  generalize starts Q = W at *
  generalize Host.gather _ _ _ = G at *
  generalize inside W = N at *
  have hz := sizes_apply C b k
  rw [corners_apply] at hl
  generalize sizes C = Z at *
  simp only [pointwise]
  show Scalar.select (N (ix2 b i)) (G (ix3 b i k)) _ * Z (ix2 b k) = _
  rw [hi, hl, hz]
  rfl

end Cert.ReferenceIdeal.Read
end
-- ==== Proof.Results.lean ====
/-
  The equation: of each batch element the kernel's rows and the reference's greatest scores come from the same 100 positions,
  in the same order, and so the three results agree.
-/
module

public import proofs.«01_k».proof.Proof.Batch
public import proofs.«01_k».proof.Proof.Inputs
public import proofs.«01_k».proof.Proof.Epilogue
public import proofs.«01_k».proof.Proof.Prefix
public import proofs.«01_k».proof.Proof.RefSide

@[expose] public section

set_option maxRecDepth 16384

noncomputable section

namespace Cert.KernelIdeal.Val

open Cert.KernelIdeal Cert.KernelIdeal.Gen Cert.Top
open Idealize.ShloMosaic

/-- The order of scores is the order of their sigmoids. -/
theorem bef_logistic {k k' : EReal} {p p' : ℕ} (h : Bef k p k' p') : Bef (Ideal.logistic k) p (Ideal.logistic k') p' := by
  rcases h with h | ⟨h, hp⟩
  · exact .inl (Cert.Pieces.logistic_strictMono h)
  · exact .inr ⟨congrArg Ideal.logistic h, hp⟩

/-- The 100 positions of a batch element both programs choose, in their order. -/
theorem positions (A : Vec Ideal S6x8x900x1100 .f32) (hA : ∀ b p hp, neg (F := Ideal) < logit A b p hp)
    (X : Fin 8 → Vec Ideal S640x128 .f32) (hX : ∀ b r l, X b (ix2 r l) = padded A (ix3 b r l)) (b : Fin 8) :
    ∃ σ : Fin 100 → Fin 81900, ∀ i,
      bestS X b (ix2 0 (lane i)) = logit A b (σ i).val (σ i).isLt
      ∧ bestF X b (ix2 0 (lane i)) = BitVec.ofNat 32 (σ i).val
      ∧ (Cert.ReferenceIdeal.Read.top A).1 (ix2 b i) = Ideal.logistic (logit A b (σ i).val (σ i).isLt)
      ∧ (Cert.ReferenceIdeal.Read.top A).2 (ix2 b i) = BitVec.ofNat 32 (σ i).val := by
  obtain ⟨τ, hS, hF, hneg, hinj, hord, hdom⟩ := batch X b (fun r c hr => by
    have hc := c.isLt
    rw [hX, padded_in A b r c (by omega)]
    exact hA _ _ _)
  have hlt : ∀ i, pos (τ i) < 81900 := fun i => by
    by_contra hn
    have h := hneg i
    rw [hX, padded_out A b _ _ hn] at h
    exact lt_irrefl _ h
  have hval : ∀ (q : Cell) (h : pos q < 81900), X b (ix2 q.1 q.2) = logit A b (pos q) h := fun q h => by
    rw [hX]
    exact padded_in A b q.1 q.2 h
  have hkey : ∀ p : Fin 81900, Cert.ReferenceIdeal.Read.scores A (ix2 b p) = Ideal.logistic (logit A b p.val p.isLt) :=
    fun p => Cert.ReferenceIdeal.Read.scores_apply A b p
  have hsort : ∀ i : Fin 100, sortedFrom (fun p q : Fin 81900 => FloatOps.cmpfTotal .gt (Cert.ReferenceIdeal.Read.scores A (ix2 b p))
      (Cert.ReferenceIdeal.Read.scores A (ix2 b q)) == 1#1) (i.castLE (by decide)) = ⟨pos (τ i), hlt i⟩ := by
    refine first_sorted (fun p => Ideal.logistic (logit A b p.val p.isLt)) (by decide) _ (fun p q => ?_)
      (fun i => ⟨pos (τ i), hlt i⟩) (fun i j h => hinj i j (pos_inj (congrArg Fin.val h))) (fun i j h => ?_) (fun i q h => ?_)
    · rw [hkey, hkey]
      have hb : ∀ x : Bool, (BitVec.ofBool x == 1#1) = x := by decide
      exact hb _
    · have := hord i j h
      rw [hval _ (hlt i), hval _ (hlt j)] at this
      exact bef_logistic this
    · have hq := q.isLt
      have hp : pos ((⟨q.val / 128, by omega⟩, ⟨q.val % 128, by omega⟩) : Cell) = q.val := by
        show q.val / 128 * 128 + q.val % 128 = q.val
        omega
      have := hdom i (⟨q.val / 128, by omega⟩, ⟨q.val % 128, by omega⟩) (fun j e => h j (Fin.ext (by
        show pos (τ j) = q.val
        rw [e, hp])))
      rw [hval _ (hlt i), hval _ (by rw [hp]; exact hq)] at this
      simp only [hp] at this
      exact bef_logistic this
  refine ⟨fun i => ⟨pos (τ i), hlt i⟩, fun i => ⟨(hS i).trans (hval _ (hlt i)), hF i, ?_, ?_⟩⟩
  · refine (Cert.Pieces.topK_read (by decide) (FloatOps.cmpfTotal .gt) (Cert.ReferenceIdeal.Read.scores A) _ b i).1.trans ?_
    rw [hsort i]
    exact hkey _
  · refine (Cert.Pieces.topK_read (by decide) (FloatOps.cmpfTotal .gt) (Cert.ReferenceIdeal.Read.scores A) _ b i).2.trans ?_
    rw [hsort i]

/-- The first 100 lanes of a table of eight rows, read. -/
theorem first100_apply {α : Type} (x : S8x128.Idx → α) (b : Fin 8) (i : Fin 100) :
    extractStridedSlice S8x100 ![0, 0] x slices_S8x128_S8x100_0_0 (ix2 b i) = x (ix2 b (lane i)) := by
  simp only [pointwise]
  congr 1
  congr 1 <;> exact Fin.ext (Nat.zero_add _)

/-- The same of a table of boxes. -/
theorem first100x4_apply {α : Type} (x : S8x128x4.Idx → α) (b : Fin 8) (i : Fin 100) (k : Fin 4) :
    extractStridedSlice S8x100x4 ![0, 0, 0] x slices_S8x128x4_S8x100x4_0_0_0 (ix3 b i k) = x (ix3 b (lane i) k) := by
  simp only [pointwise]
  congr 1
  congr 1 <;> exact Fin.ext (Nat.zero_add _)

/-- A box among the 900 of the padded table is the box itself. -/
theorem padded_box (B : Vec Ideal S8x900x4 .f32) (v : Vec Ideal S_ .f32) (b : Fin 8) (q : ℕ) (hq : q < 900) (k : Fin 4) :
    pad S8x1024x4 ![0, 0, 0] ![0, 124, 0] ![0, 0, 0] B v pads_S8x900x4_S8x1024x4_000_01240_000 h_S_ (ix3 b ⟨q, by omega⟩ k)
      = B (ix3 b ⟨q, hq⟩ k) := by
  simp only [pointwise]
  rw [dif_pos (fun a => by fin_cases a <;> [(have := b.isLt; simp; omega); (simp; omega); (have := k.isLt; simp; omega)])]
  congr 1
  simp

/-- The three results, at one batch element and place. -/
theorem results (A : Vec Ideal S6x8x900x1100 .f32) (B : Vec Ideal S8x900x4 .f32) (C : Vec Ideal S8x2 .f32)
    (hA : ∀ b p hp, neg (F := Ideal) < logit A b p hp)
    (X : Fin 8 → Vec Ideal S640x128 .f32) (hX : ∀ b r l, X b (ix2 r l) = padded A (ix3 b r l))
    (T : Vec Ideal S8x1024x4 .f32) (v : Vec Ideal S_ .f32)
    (hT : T = pad S8x1024x4 ![0, 0, 0] ![0, 124, 0] ![0, 0, 0] B v pads_S8x900x4_S8x1024x4_000_01240_000 h_S_)
    (Z : Vec Ideal S8x4 .f32) (hZ : ∀ b k, Z (ix2 b k) = C (ix2 b (![1, 0, 1, 0] k))) (b : Fin 8) (i : Fin 100) :
    out10 X (ix2 b (lane i)) = (Cert.ReferenceIdeal.Read.top A).1 (ix2 b i)
    ∧ out11 X (ix2 b (lane i)) = Cert.ReferenceIdeal.Read.classes (Cert.ReferenceIdeal.Read.top A).2 (ix2 b i)
    ∧ ∀ k, out12 X T Z (ix3 b (lane i) k)
        = Cert.ReferenceIdeal.Read.chosen (Cert.ReferenceIdeal.Read.queries (Cert.ReferenceIdeal.Read.top A).2) B C (ix3 b i k) := by
  obtain ⟨σ, h⟩ := positions A hA X hX b
  obtain ⟨hS, hF, h1, h2⟩ := h i
  have hp := (σ i).isLt
  refine ⟨?_, ?_, fun k => ?_⟩
  · refine (score_apply (bestS X b) (lane i)).trans ?_
    rw [hS, h1]
  · refine (class_apply (bestF X b) (lane i) _ hp hF).trans ?_
    exact (Cert.ReferenceIdeal.Read.classes_apply _ b i _ hp h2).symm
  · have hq : (σ i).val / 91 < 900 := by omega
    refine (box_apply _ (boxTable T b) (scaleRow Z b) (lane i) k _ (by omega) (query_apply (bestF X b) (lane i) _ hp hF)).trans ?_
    refine Eq.trans ?_ (Cert.ReferenceIdeal.Read.chosen_apply _ B C b i k _ hq (Cert.ReferenceIdeal.Read.queries_apply _ b i _ hp h2)).symm
    have hz : scaleRow Z b (ix2 0 k) = C (ix2 b (![1, 0, 1, 0] k)) := hZ b k
    have ht : (fun j : Fin 4 => boxTable T b (ix3 0 ⟨(σ i).val / 91, by omega⟩ j)) = fun j => B (ix3 b ⟨(σ i).val / 91, hq⟩ j) := by
      funext j
      subst hT
      exact padded_box B v b _ hq j
    rw [hz, ht]

end Cert.KernelIdeal.Val
end
-- ==== Proof.Algebraic.lean ====
/-
  The value claim: from memories that agree on the arguments, and whose class scores all exceed the padding value, the
  idealized kernel and the reference both run and end with equal results.
-/
module

public import proofs.«01_k».proof.Defs
public import proofs.«01_k».proof.Proof.Precond
public import proofs.«01_k».proof.Proof.Results

@[expose] public section

set_option maxRecDepth 16384

namespace Cert.Proof

open Idealize.ShloMosaic Idealize.ShloMosaic.TcCoe Idealize.SL.Sem

/-- The two programs end with the same scores, labels and boxes. -/
theorem algebraic : Cert.algebraic_KernelIdeal_ReferenceIdeal_pre_scores_above_padding := by
  intro m g m' g' hpre hargs
  have hA : ∀ c b p hp, Cert.KernelIdeal.Val.neg (F := Ideal)
      < Cert.KernelIdeal.Val.logit (m (c, Proc.tc.devRef Cert.KernelIdeal.main_arg0)) b p hp := fun c b p hp =>
    Cert.Pre_scores_above_padding.above _ _ _ (hpre c) b p hp
  have key := fun (c : Dev Cert.KernelIdeal.nD) (b : Fin 8) (i : Fin 100) =>
    Cert.KernelIdeal.Val.results (m (c, Proc.tc.devRef Cert.KernelIdeal.main_arg0)) (m (c, Proc.tc.devRef Cert.KernelIdeal.main_arg1))
      (m (c, Proc.tc.devRef Cert.KernelIdeal.main_arg2)) (hA c) (Cert.KernelIdeal.Val.blocks m c Cert.KernelIdeal.Gen.t0_0)
      (Cert.KernelIdeal.Val.block m c) _ _ (Cert.KernelIdeal.Val.boxes m c) _ (Cert.KernelIdeal.Val.scale m c) b i
  refine ⟨_, _, _, Cert.KernelIdeal.Val.run m g, ?_⟩
  refine (θ_run Cert.ReferenceIdeal.defs _ _).mono (fun r h c => ?_) (Cert.ReferenceIdeal.Read.run m' g')
  obtain ⟨h0, h1, h2, hk⟩ := h c
  obtain ⟨a0, a1, a2⟩ := hargs c
  refine ⟨h0.trans ?_, h1.trans ?_, h2.trans ?_, hk⟩
  · refine (congrArg (fun A => (Cert.ReferenceIdeal.Read.top A).1) a0).trans ?_
    funext j
    rw [eq_ix2 j]
    exact (key c (j 0) (j 1)).1.symm.trans (Cert.KernelIdeal.Val.first100_apply _ _ _).symm
  · refine (congrArg (fun A => Cert.ReferenceIdeal.Read.classes (Cert.ReferenceIdeal.Read.top A).2) a0).trans ?_
    funext j
    rw [eq_ix2 j]
    exact (key c (j 0) (j 1)).2.1.symm.trans (Cert.KernelIdeal.Val.first100_apply _ _ _).symm
  · refine (congr (congr (congrArg (fun A => Cert.ReferenceIdeal.Read.chosen
      (Cert.ReferenceIdeal.Read.queries (Cert.ReferenceIdeal.Read.top A).2)) a0) a1) a2).trans ?_
    funext j
    rw [eq_ix3 j]
    exact ((key c (j 0) (j 1)).2.2 (j 2)).symm.trans (Cert.KernelIdeal.Val.first100x4_apply _ _ _ _).symm

end Cert.Proof
-- ==== Proof.lean ====
/-
  The certificate: each claim of `Cert.Claim`, from the module that proves it.
-/
module

public import proofs.«01_k».proof.Defs
public import proofs.«01_k».proof.Proof.KernelFrame
public import proofs.«01_k».proof.Proof.KernelIdealFrame
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Pipeline.Quiescent

@[expose] public section

namespace Cert.Proof

open Idealize.ShloMosaic Idealize.ShloMosaic.TcCoe Idealize.SL.Sem

/-- The reference terminates without a fault and leaves its arguments as they were. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

end Cert.Proof

theorem Cert.Proof.claim : Cert.Claim := ⟨Cert.Kernel.Gen.facts, Cert.KernelIdeal.Gen.facts, Cert.ReferenceIdeal.Gen.facts,
  Cert.Pre_scores_above_padding.facts,
  fun m ρ _ => Cert.Kernel.Hand.frame m ρ,
  fun m ρ _ => Cert.KernelIdeal.Hand.frame m ρ,
  fun m ρ _ => Cert.KernelIdeal.Hand.frame m ρ,
  fun m ρ _ => Cert.Proof.frame_reference m ρ,
  fun m ρ _ => Cert.Proof.frame_reference m ρ,
  trivial,
  Cert.Proof.algebraic⟩
